-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x8000 : Shape := ⟨2, ![4096, 8000]⟩
abbrev S4096x1024 : Shape := ⟨2, ![4096, 1024]⟩
abbrev S8000x64 : Shape := ⟨2, ![8000, 64]⟩
abbrev S64 : Shape := ⟨1, ![64]⟩
abbrev S1024x64 : Shape := ⟨2, ![1024, 64]⟩
abbrev S64x64x64 : Shape := ⟨3, ![64, 64, 64]⟩
abbrev S64x1 : Shape := ⟨2, ![64, 1]⟩
abbrev S1 : Shape := ⟨1, ![1]⟩
abbrev S8000x4096 : Shape := ⟨2, ![8000, 4096]⟩
abbrev S64x8000 : Shape := ⟨2, ![64, 8000]⟩
abbrev S64x1024 : Shape := ⟨2, ![64, 1024]⟩
abbrev S4096x64 : Shape := ⟨2, ![4096, 64]⟩
abbrev S1x64 : Shape := ⟨2, ![1, 64]⟩
abbrev S64x64 : Shape := ⟨2, ![64, 64]⟩
abbrev S_ : Shape := ⟨0, ![]⟩
abbrev S64x1x64x1 : Shape := ⟨4, ![64, 1, 64, 1]⟩
abbrev S1x1x1x64 : Shape := ⟨4, ![1, 1, 1, 64]⟩
abbrev S64x1x64x64 : Shape := ⟨4, ![64, 1, 64, 64]⟩
abbrev S64x4096 : Shape := ⟨2, ![64, 4096]⟩
abbrev S1x1 : Shape := ⟨2, ![1, 1]⟩
abbrev S1x4096 : Shape := ⟨2, ![1, 4096]⟩
abbrev S512x1024 : Shape := ⟨2, ![512, 1024]⟩
abbrev S1x512 : Shape := ⟨2, ![1, 512]⟩
abbrev S8000x256 : Shape := ⟨2, ![8000, 256]⟩
abbrev S25 : Shape := ⟨1, ![25]⟩
abbrev S320x256 : Shape := ⟨2, ![320, 256]⟩
abbrev S64x256 : Shape := ⟨2, ![64, 256]⟩
abbrev S256x1024 : Shape := ⟨2, ![256, 1024]⟩
abbrev S4096x256 : Shape := ⟨2, ![4096, 256]⟩
abbrev S1x256 : Shape := ⟨2, ![1, 256]⟩
abbrev S4096x1 : Shape := ⟨2, ![4096, 1]⟩

abbrev nBuf : Space → Nat
  | .hbm => 33
  | .vmem => 15
  | .smem => 0
  | _ => 0

abbrev bufTy : (tb : Table) → Fin (tcTables nBuf tb) → BufTy
  | .hbm, ⟨0, _⟩ => ⟨S4096x8000, .f32⟩
  | .hbm, ⟨1, _⟩ => ⟨S4096x1024, .f32⟩
  | .hbm, ⟨2, _⟩ => ⟨S8000x64, .f32⟩
  | .hbm, ⟨3, _⟩ => ⟨S64, .f32⟩
  | .hbm, ⟨4, _⟩ => ⟨S1024x64, .f32⟩
  | .hbm, ⟨5, _⟩ => ⟨S64, .f32⟩
  | .hbm, ⟨6, _⟩ => ⟨S64x64x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S8000x4096, .f32⟩
  | .hbm, ⟨11, _⟩ => ⟨S64x8000, .f32⟩
  | .hbm, ⟨12, _⟩ => ⟨S64x1024, .f32⟩
  | .hbm, ⟨13, _⟩ => ⟨S4096x64, .f32⟩
  | .hbm, ⟨14, _⟩ => ⟨S1x64, .f32⟩
  | .hbm, ⟨15, _⟩ => ⟨S64x64, .i32⟩
  | .hbm, ⟨16, _⟩ => ⟨S64x64, .i32⟩
  | .hbm, ⟨17, _⟩ => ⟨S_, .i32⟩
  | .hbm, ⟨18, _⟩ => ⟨S64x64, .i32⟩
  | .hbm, ⟨19, _⟩ => ⟨S64x64, .i32⟩
  | .hbm, ⟨20, _⟩ => ⟨S64x64, .i1⟩
  | .hbm, ⟨21, _⟩ => ⟨S64x64, .f32⟩
  | .hbm, ⟨22, _⟩ => ⟨S_, .f32⟩
  | .hbm, ⟨23, _⟩ => ⟨S1x64, .f32⟩
  | .hbm, ⟨24, _⟩ => ⟨S64x1x64x1, .f32⟩
  | .hbm, ⟨25, _⟩ => ⟨S1x1x1x64, .f32⟩
  | .hbm, ⟨26, _⟩ => ⟨S64x1x64x64, .f32⟩
  | .hbm, ⟨27, _⟩ => ⟨S64x1x64x64, .f32⟩
  | .hbm, ⟨28, _⟩ => ⟨S64x1x64x64, .f32⟩
  | .hbm, ⟨29, _⟩ => ⟨S64x4096, .f32⟩
  | .hbm, ⟨30, _⟩ => ⟨S1x1, .f32⟩
  | .hbm, ⟨31, _⟩ => ⟨S1x4096, .f32⟩
  | .hbm, ⟨32, _⟩ => ⟨S4096x1, .f32⟩
  | .local _ .vmem, ⟨0, _⟩ => ⟨S512x1024, .f32⟩
  | .local _ .vmem, ⟨1, _⟩ => ⟨S512x1024, .f32⟩
  | .local _ .vmem, ⟨2, _⟩ => ⟨S64x8000, .f32⟩
  | .local _ .vmem, ⟨3, _⟩ => ⟨S64, .f32⟩
  | .local _ .vmem, ⟨4, _⟩ => ⟨S64x1024, .f32⟩
  | .local _ .vmem, ⟨5, _⟩ => ⟨S64, .f32⟩
  | .local _ .vmem, ⟨6, _⟩ => ⟨S4096x64, .f32⟩
  | .local _ .vmem, ⟨7, _⟩ => ⟨S64, .f32⟩
  | .local _ .vmem, ⟨8, _⟩ => ⟨S1x64, .f32⟩
  | .local _ .vmem, ⟨9, _⟩ => ⟨S1x1, .f32⟩
  | .local _ .vmem, ⟨10, _⟩ => ⟨S64x4096, .f32⟩
  | .local _ .vmem, ⟨11, _⟩ => ⟨S1x512, .f32⟩
  | .local _ .vmem, ⟨12, _⟩ => ⟨S1x512, .f32⟩
  | .local _ .vmem, ⟨13, _⟩ => ⟨S8000x256, .f32⟩
  | .local _ .vmem, ⟨14, _⟩ => ⟨S8000x256, .f32⟩
  | _, _ => ⟨S4096x8000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let c0_i32_4 : BitVec 32 := 0#32
  let c2_i32 : BitVec 32 := 2#32
  let arg0 : BitVec 32 := BitVec.ofNat 32 (i 0).val
  let v3 : BitVec 32 := Scalar.muli c2_i32 arg0
  let c256_i32 : BitVec 32 := 256#32
  let v4 : BitVec 32 := Scalar.muli v3 c256_i32
  ![0, v4.toNat]
def k0_off2 (i : grid0.Coords) : Fin 2 → Nat :=
  let c320_i32_6 : BitVec 32 := 320#32
  let c2_i32 : BitVec 32 := 2#32
  let arg0 : BitVec 32 := BitVec.ofNat 32 (i 0).val
  let v3 : BitVec 32 := Scalar.muli c2_i32 arg0
  let c256_i32 : BitVec 32 := 256#32
  let v4 : BitVec 32 := Scalar.muli v3 c256_i32
  ![320, v4.toNat]
def k0_off3 (i : grid0.Coords) : Fin 2 → Nat :=
  let c640_i32_9 : BitVec 32 := 640#32
  let c2_i32 : BitVec 32 := 2#32
  let arg0 : BitVec 32 := BitVec.ofNat 32 (i 0).val
  let v3 : BitVec 32 := Scalar.muli c2_i32 arg0
  let c256_i32 : BitVec 32 := 256#32
  let v4 : BitVec 32 := Scalar.muli v3 c256_i32
  ![640, v4.toNat]
def k0_off4 (i : grid0.Coords) : Fin 2 → Nat :=
  let c960_i32_11 : BitVec 32 := 960#32
  let c2_i32 : BitVec 32 := 2#32
  let arg0 : BitVec 32 := BitVec.ofNat 32 (i 0).val
  let v3 : BitVec 32 := Scalar.muli c2_i32 arg0
  let c256_i32 : BitVec 32 := 256#32
  let v4 : BitVec 32 := Scalar.muli v3 c256_i32
  ![960, v4.toNat]
def k0_off5 (i : grid0.Coords) : Fin 2 → Nat :=
  let c1280_i32_13 : BitVec 32 := 1280#32
  let c2_i32 : BitVec 32 := 2#32
  let arg0 : BitVec 32 := BitVec.ofNat 32 (i 0).val
  let v3 : BitVec 32 := Scalar.muli c2_i32 arg0
  let c256_i32 : BitVec 32 := 256#32
  let v4 : BitVec 32 := Scalar.muli v3 c256_i32
  ![1280, v4.toNat]
def k0_off6 (i : grid0.Coords) : Fin 2 → Nat :=
  let c1600_i32_15 : BitVec 32 := 1600#32
  let c2_i32 : BitVec 32 := 2#32
  let arg0 : BitVec 32 := BitVec.ofNat 32 (i 0).val
  let v3 : BitVec 32 := Scalar.muli c2_i32 arg0
  let c256_i32 : BitVec 32 := 256#32
  let v4 : BitVec 32 := Scalar.muli v3 c256_i32
  ![1600, v4.toNat]
def k0_off7 (i : grid0.Coords) : Fin 2 → Nat :=
  let c1920_i32_17 : BitVec 32 := 1920#32
  let c2_i32 : BitVec 32 := 2#32
  let arg0 : BitVec 32 := BitVec.ofNat 32 (i 0).val
  let v3 : BitVec 32 := Scalar.muli c2_i32 arg0
  let c256_i32 : BitVec 32 := 256#32
  let v4 : BitVec 32 := Scalar.muli v3 c256_i32
  ![1920, v4.toNat]
def k0_off8 (i : grid0.Coords) : Fin 2 → Nat :=
  let c2240_i32_19 : BitVec 32 := 2240#32
  let c2_i32 : BitVec 32 := 2#32
  let arg0 : BitVec 32 := BitVec.ofNat 32 (i 0).val
  let v3 : BitVec 32 := Scalar.muli c2_i32 arg0
  let c256_i32 : BitVec 32 := 256#32
  let v4 : BitVec 32 := Scalar.muli v3 c256_i32
  ![2240, v4.toNat]
def k0_off9 (i : grid0.Coords) : Fin 2 → Nat :=
  let c2560_i32_21 : BitVec 32 := 2560#32
  let c2_i32 : BitVec 32 := 2#32
  let arg0 : BitVec 32 := BitVec.ofNat 32 (i 0).val
  let v3 : BitVec 32 := Scalar.muli c2_i32 arg0
  let c256_i32 : BitVec 32 := 256#32
  let v4 : BitVec 32 := Scalar.muli v3 c256_i32
  ![2560, v4.toNat]
def k0_off10 (i : grid0.Coords) : Fin 2 → Nat :=
  let c2880_i32_23 : BitVec 32 := 2880#32
  let c2_i32 : BitVec 32 := 2#32
  let arg0 : BitVec 32 := BitVec.ofNat 32 (i 0).val
  let v3 : BitVec 32 := Scalar.muli c2_i32 arg0
  let c256_i32 : BitVec 32 := 256#32
  let v4 : BitVec 32 := Scalar.muli v3 c256_i32
  ![2880, v4.toNat]
def k0_off11 (i : grid0.Coords) : Fin 2 → Nat :=
  let c3200_i32_25 : BitVec 32 := 3200#32
  let c2_i32 : BitVec 32 := 2#32
  let arg0 : BitVec 32 := BitVec.ofNat 32 (i 0).val
  let v3 : BitVec 32 := Scalar.muli c2_i32 arg0
  let c256_i32 : BitVec 32 := 256#32
  let v4 : BitVec 32 := Scalar.muli v3 c256_i32
  ![3200, v4.toNat]
def k0_off12 (i : grid0.Coords) : Fin 2 → Nat :=
  let c3520_i32_27 : BitVec 32 := 3520#32
  let c2_i32 : BitVec 32 := 2#32
  let arg0 : BitVec 32 := BitVec.ofNat 32 (i 0).val
  let v3 : BitVec 32 := Scalar.muli c2_i32 arg0
  let c256_i32 : BitVec 32 := 256#32
  let v4 : BitVec 32 := Scalar.muli v3 c256_i32
  ![3520, v4.toNat]
def k0_off13 (i : grid0.Coords) : Fin 2 → Nat :=
  let c3840_i32_29 : BitVec 32 := 3840#32
  let c2_i32 : BitVec 32 := 2#32
  let arg0 : BitVec 32 := BitVec.ofNat 32 (i 0).val
  let v3 : BitVec 32 := Scalar.muli c2_i32 arg0
  let c256_i32 : BitVec 32 := 256#32
  let v4 : BitVec 32 := Scalar.muli v3 c256_i32
  ![3840, v4.toNat]
def k0_off14 (i : grid0.Coords) : Fin 2 → Nat :=
  let c4160_i32_31 : BitVec 32 := 4160#32
  let c2_i32 : BitVec 32 := 2#32
  let arg0 : BitVec 32 := BitVec.ofNat 32 (i 0).val
  let v3 : BitVec 32 := Scalar.muli c2_i32 arg0
  let c256_i32 : BitVec 32 := 256#32
  let v4 : BitVec 32 := Scalar.muli v3 c256_i32
  ![4160, v4.toNat]
def k0_off15 (i : grid0.Coords) : Fin 2 → Nat :=
  let c4480_i32_33 : BitVec 32 := 4480#32
  let c2_i32 : BitVec 32 := 2#32
  let arg0 : BitVec 32 := BitVec.ofNat 32 (i 0).val
  let v3 : BitVec 32 := Scalar.muli c2_i32 arg0
  let c256_i32 : BitVec 32 := 256#32
  let v4 : BitVec 32 := Scalar.muli v3 c256_i32
  ![4480, v4.toNat]
def k0_off16 (i : grid0.Coords) : Fin 2 → Nat :=
  let c4800_i32_35 : BitVec 32 := 4800#32
  let c2_i32 : BitVec 32 := 2#32
  let arg0 : BitVec 32 := BitVec.ofNat 32 (i 0).val
  let v3 : BitVec 32 := Scalar.muli c2_i32 arg0
  let c256_i32 : BitVec 32 := 256#32
  let v4 : BitVec 32 := Scalar.muli v3 c256_i32
  ![4800, v4.toNat]
def k0_off17 (i : grid0.Coords) : Fin 2 → Nat :=
  let c5120_i32_37 : BitVec 32 := 5120#32
  let c2_i32 : BitVec 32 := 2#32
  let arg0 : BitVec 32 := BitVec.ofNat 32 (i 0).val
  let v3 : BitVec 32 := Scalar.muli c2_i32 arg0
  let c256_i32 : BitVec 32 := 256#32
  let v4 : BitVec 32 := Scalar.muli v3 c256_i32
  ![5120, v4.toNat]
def k0_off18 (i : grid0.Coords) : Fin 2 → Nat :=
  let c5440_i32_39 : BitVec 32 := 5440#32
  let c2_i32 : BitVec 32 := 2#32
  let arg0 : BitVec 32 := BitVec.ofNat 32 (i 0).val
  let v3 : BitVec 32 := Scalar.muli c2_i32 arg0
  let c256_i32 : BitVec 32 := 256#32
  let v4 : BitVec 32 := Scalar.muli v3 c256_i32
  ![5440, v4.toNat]
def k0_off19 (i : grid0.Coords) : Fin 2 → Nat :=
  let c5760_i32_41 : BitVec 32 := 5760#32
  let c2_i32 : BitVec 32 := 2#32
  let arg0 : BitVec 32 := BitVec.ofNat 32 (i 0).val
  let v3 : BitVec 32 := Scalar.muli c2_i32 arg0
  let c256_i32 : BitVec 32 := 256#32
  let v4 : BitVec 32 := Scalar.muli v3 c256_i32
  ![5760, v4.toNat]
def k0_off20 (i : grid0.Coords) : Fin 2 → Nat :=
  let c6080_i32_43 : BitVec 32 := 6080#32
  let c2_i32 : BitVec 32 := 2#32
  let arg0 : BitVec 32 := BitVec.ofNat 32 (i 0).val
  let v3 : BitVec 32 := Scalar.muli c2_i32 arg0
  let c256_i32 : BitVec 32 := 256#32
  let v4 : BitVec 32 := Scalar.muli v3 c256_i32
  ![6080, v4.toNat]
def k0_off21 (i : grid0.Coords) : Fin 2 → Nat :=
  let c6400_i32_45 : BitVec 32 := 6400#32
  let c2_i32 : BitVec 32 := 2#32
  let arg0 : BitVec 32 := BitVec.ofNat 32 (i 0).val
  let v3 : BitVec 32 := Scalar.muli c2_i32 arg0
  let c256_i32 : BitVec 32 := 256#32
  let v4 : BitVec 32 := Scalar.muli v3 c256_i32
  ![6400, v4.toNat]
def k0_off22 (i : grid0.Coords) : Fin 2 → Nat :=
  let c6720_i32_47 : BitVec 32 := 6720#32
  let c2_i32 : BitVec 32 := 2#32
  let arg0 : BitVec 32 := BitVec.ofNat 32 (i 0).val
  let v3 : BitVec 32 := Scalar.muli c2_i32 arg0
  let c256_i32 : BitVec 32 := 256#32
  let v4 : BitVec 32 := Scalar.muli v3 c256_i32
  ![6720, v4.toNat]
def k0_off23 (i : grid0.Coords) : Fin 2 → Nat :=
  let c7040_i32_49 : BitVec 32 := 7040#32
  let c2_i32 : BitVec 32 := 2#32
  let arg0 : BitVec 32 := BitVec.ofNat 32 (i 0).val
  let v3 : BitVec 32 := Scalar.muli c2_i32 arg0
  let c256_i32 : BitVec 32 := 256#32
  let v4 : BitVec 32 := Scalar.muli v3 c256_i32
  ![7040, v4.toNat]
def k0_off24 (i : grid0.Coords) : Fin 2 → Nat :=
  let c7360_i32_51 : BitVec 32 := 7360#32
  let c2_i32 : BitVec 32 := 2#32
  let arg0 : BitVec 32 := BitVec.ofNat 32 (i 0).val
  let v3 : BitVec 32 := Scalar.muli c2_i32 arg0
  let c256_i32 : BitVec 32 := 256#32
  let v4 : BitVec 32 := Scalar.muli v3 c256_i32
  ![7360, v4.toNat]
def k0_off25 (i : grid0.Coords) : Fin 2 → Nat :=
  let c7680_i32_53 : BitVec 32 := 7680#32
  let c2_i32 : BitVec 32 := 2#32
  let arg0 : BitVec 32 := BitVec.ofNat 32 (i 0).val
  let v3 : BitVec 32 := Scalar.muli c2_i32 arg0
  let c256_i32 : BitVec 32 := 256#32
  let v4 : BitVec 32 := Scalar.muli v3 c256_i32
  ![7680, v4.toNat]
def k0_cond2 (i : grid0.Coords) : BitVec 1 :=
  let c2_i32 : BitVec 32 := 2#32
  let arg0 : BitVec 32 := BitVec.ofNat 32 (i 0).val
  let v3 : BitVec 32 := Scalar.muli c2_i32 arg0
  let c2_i32_57 : BitVec 32 := 2#32
  let v109 : BitVec 32 := Scalar.addi v3 c2_i32_57
  let c16_i32_58 : BitVec 32 := 16#32
  let v110 : BitVec 1 := Scalar.cmpi .slt v109 c16_i32_58
  let v111 : BitVec 32 := Scalar.extui v110
  let c0_i32_59 : BitVec 32 := 0#32
  let v112 : BitVec 1 := Scalar.cmpi .ne v111 c0_i32_59
  v112

def k0_off26 (i : grid0.Coords) : Fin 2 → Nat :=
  let c0_i32_223 : BitVec 32 := 0#32
  let c2_i32 : BitVec 32 := 2#32
  let arg0 : BitVec 32 := BitVec.ofNat 32 (i 0).val
  let v3 : BitVec 32 := Scalar.muli c2_i32 arg0
  let c2_i32_218 : BitVec 32 := 2#32
  let v300 : BitVec 32 := Scalar.addi v3 c2_i32_218
  let c256_i32_219 : BitVec 32 := 256#32
  let v301 : BitVec 32 := Scalar.muli v300 c256_i32_219
  ![0, v301.toNat]
def k0_off27 (i : grid0.Coords) : Fin 2 → Nat :=
  let c320_i32_227 : BitVec 32 := 320#32
  let c2_i32 : BitVec 32 := 2#32
  let arg0 : BitVec 32 := BitVec.ofNat 32 (i 0).val
  let v3 : BitVec 32 := Scalar.muli c2_i32 arg0
  let c2_i32_218 : BitVec 32 := 2#32
  let v300 : BitVec 32 := Scalar.addi v3 c2_i32_218
  let c256_i32_219 : BitVec 32 := 256#32
  let v301 : BitVec 32 := Scalar.muli v300 c256_i32_219
  ![320, v301.toNat]
def k0_off28 (i : grid0.Coords) : Fin 2 → Nat :=
  let c640_i32_231 : BitVec 32 := 640#32
  let c2_i32 : BitVec 32 := 2#32
  let arg0 : BitVec 32 := BitVec.ofNat 32 (i 0).val
  let v3 : BitVec 32 := Scalar.muli c2_i32 arg0
  let c2_i32_218 : BitVec 32 := 2#32
  let v300 : BitVec 32 := Scalar.addi v3 c2_i32_218
  let c256_i32_219 : BitVec 32 := 256#32
  let v301 : BitVec 32 := Scalar.muli v300 c256_i32_219
  ![640, v301.toNat]
def k0_off29 (i : grid0.Coords) : Fin 2 → Nat :=
  let c960_i32_235 : BitVec 32 := 960#32
  let c2_i32 : BitVec 32 := 2#32
  let arg0 : BitVec 32 := BitVec.ofNat 32 (i 0).val
  let v3 : BitVec 32 := Scalar.muli c2_i32 arg0
  let c2_i32_218 : BitVec 32 := 2#32
  let v300 : BitVec 32 := Scalar.addi v3 c2_i32_218
  let c256_i32_219 : BitVec 32 := 256#32
  let v301 : BitVec 32 := Scalar.muli v300 c256_i32_219
  ![960, v301.toNat]
def k0_off30 (i : grid0.Coords) : Fin 2 → Nat :=
  let c1280_i32_239 : BitVec 32 := 1280#32
  let c2_i32 : BitVec 32 := 2#32
  let arg0 : BitVec 32 := BitVec.ofNat 32 (i 0).val
  let v3 : BitVec 32 := Scalar.muli c2_i32 arg0
  let c2_i32_218 : BitVec 32 := 2#32
  let v300 : BitVec 32 := Scalar.addi v3 c2_i32_218
  let c256_i32_219 : BitVec 32 := 256#32
  let v301 : BitVec 32 := Scalar.muli v300 c256_i32_219
  ![1280, v301.toNat]
def k0_off31 (i : grid0.Coords) : Fin 2 → Nat :=
  let c1600_i32_243 : BitVec 32 := 1600#32
  let c2_i32 : BitVec 32 := 2#32
  let arg0 : BitVec 32 := BitVec.ofNat 32 (i 0).val
  let v3 : BitVec 32 := Scalar.muli c2_i32 arg0
  let c2_i32_218 : BitVec 32 := 2#32
  let v300 : BitVec 32 := Scalar.addi v3 c2_i32_218
  let c256_i32_219 : BitVec 32 := 256#32
  let v301 : BitVec 32 := Scalar.muli v300 c256_i32_219
  ![1600, v301.toNat]
def k0_off32 (i : grid0.Coords) : Fin 2 → Nat :=
  let c1920_i32_247 : BitVec 32 := 1920#32
  let c2_i32 : BitVec 32 := 2#32
  let arg0 : BitVec 32 := BitVec.ofNat 32 (i 0).val
  let v3 : BitVec 32 := Scalar.muli c2_i32 arg0
  let c2_i32_218 : BitVec 32 := 2#32
  let v300 : BitVec 32 := Scalar.addi v3 c2_i32_218
  let c256_i32_219 : BitVec 32 := 256#32
  let v301 : BitVec 32 := Scalar.muli v300 c256_i32_219
  ![1920, v301.toNat]
def k0_off33 (i : grid0.Coords) : Fin 2 → Nat :=
  let c2240_i32_251 : BitVec 32 := 2240#32
  let c2_i32 : BitVec 32 := 2#32
  let arg0 : BitVec 32 := BitVec.ofNat 32 (i 0).val
  let v3 : BitVec 32 := Scalar.muli c2_i32 arg0
  let c2_i32_218 : BitVec 32 := 2#32
  let v300 : BitVec 32 := Scalar.addi v3 c2_i32_218
  let c256_i32_219 : BitVec 32 := 256#32
  let v301 : BitVec 32 := Scalar.muli v300 c256_i32_219
  ![2240, v301.toNat]
def k0_off34 (i : grid0.Coords) : Fin 2 → Nat :=
  let c2560_i32_255 : BitVec 32 := 2560#32
  let c2_i32 : BitVec 32 := 2#32
  let arg0 : BitVec 32 := BitVec.ofNat 32 (i 0).val
  let v3 : BitVec 32 := Scalar.muli c2_i32 arg0
  let c2_i32_218 : BitVec 32 := 2#32
  let v300 : BitVec 32 := Scalar.addi v3 c2_i32_218
  let c256_i32_219 : BitVec 32 := 256#32
  let v301 : BitVec 32 := Scalar.muli v300 c256_i32_219
  ![2560, v301.toNat]
def k0_off35 (i : grid0.Coords) : Fin 2 → Nat :=
  let c2880_i32_259 : BitVec 32 := 2880#32
  let c2_i32 : BitVec 32 := 2#32
  let arg0 : BitVec 32 := BitVec.ofNat 32 (i 0).val
  let v3 : BitVec 32 := Scalar.muli c2_i32 arg0
  let c2_i32_218 : BitVec 32 := 2#32
  let v300 : BitVec 32 := Scalar.addi v3 c2_i32_218
  let c256_i32_219 : BitVec 32 := 256#32
  let v301 : BitVec 32 := Scalar.muli v300 c256_i32_219
  ![2880, v301.toNat]
def k0_off36 (i : grid0.Coords) : Fin 2 → Nat :=
  let c3200_i32_263 : BitVec 32 := 3200#32
  let c2_i32 : BitVec 32 := 2#32
  let arg0 : BitVec 32 := BitVec.ofNat 32 (i 0).val
  let v3 : BitVec 32 := Scalar.muli c2_i32 arg0
  let c2_i32_218 : BitVec 32 := 2#32
  let v300 : BitVec 32 := Scalar.addi v3 c2_i32_218
  let c256_i32_219 : BitVec 32 := 256#32
  let v301 : BitVec 32 := Scalar.muli v300 c256_i32_219
  ![3200, v301.toNat]
def k0_off37 (i : grid0.Coords) : Fin 2 → Nat :=
  let c3520_i32_267 : BitVec 32 := 3520#32
  let c2_i32 : BitVec 32 := 2#32
  let arg0 : BitVec 32 := BitVec.ofNat 32 (i 0).val
  let v3 : BitVec 32 := Scalar.muli c2_i32 arg0
  let c2_i32_218 : BitVec 32 := 2#32
  let v300 : BitVec 32 := Scalar.addi v3 c2_i32_218
  let c256_i32_219 : BitVec 32 := 256#32
  let v301 : BitVec 32 := Scalar.muli v300 c256_i32_219
  ![3520, v301.toNat]
def k0_off38 (i : grid0.Coords) : Fin 2 → Nat :=
  let c3840_i32_271 : BitVec 32 := 3840#32
  let c2_i32 : BitVec 32 := 2#32
  let arg0 : BitVec 32 := BitVec.ofNat 32 (i 0).val
  let v3 : BitVec 32 := Scalar.muli c2_i32 arg0
  let c2_i32_218 : BitVec 32 := 2#32
  let v300 : BitVec 32 := Scalar.addi v3 c2_i32_218
  let c256_i32_219 : BitVec 32 := 256#32
  let v301 : BitVec 32 := Scalar.muli v300 c256_i32_219
  ![3840, v301.toNat]
def k0_off39 (i : grid0.Coords) : Fin 2 → Nat :=
  let c4160_i32_275 : BitVec 32 := 4160#32
  let c2_i32 : BitVec 32 := 2#32
  let arg0 : BitVec 32 := BitVec.ofNat 32 (i 0).val
  let v3 : BitVec 32 := Scalar.muli c2_i32 arg0
  let c2_i32_218 : BitVec 32 := 2#32
  let v300 : BitVec 32 := Scalar.addi v3 c2_i32_218
  let c256_i32_219 : BitVec 32 := 256#32
  let v301 : BitVec 32 := Scalar.muli v300 c256_i32_219
  ![4160, v301.toNat]
def k0_off40 (i : grid0.Coords) : Fin 2 → Nat :=
  let c4480_i32_279 : BitVec 32 := 4480#32
  let c2_i32 : BitVec 32 := 2#32
  let arg0 : BitVec 32 := BitVec.ofNat 32 (i 0).val
  let v3 : BitVec 32 := Scalar.muli c2_i32 arg0
  let c2_i32_218 : BitVec 32 := 2#32
  let v300 : BitVec 32 := Scalar.addi v3 c2_i32_218
  let c256_i32_219 : BitVec 32 := 256#32
  let v301 : BitVec 32 := Scalar.muli v300 c256_i32_219
  ![4480, v301.toNat]
def k0_off41 (i : grid0.Coords) : Fin 2 → Nat :=
  let c4800_i32_283 : BitVec 32 := 4800#32
  let c2_i32 : BitVec 32 := 2#32
  let arg0 : BitVec 32 := BitVec.ofNat 32 (i 0).val
  let v3 : BitVec 32 := Scalar.muli c2_i32 arg0
  let c2_i32_218 : BitVec 32 := 2#32
  let v300 : BitVec 32 := Scalar.addi v3 c2_i32_218
  let c256_i32_219 : BitVec 32 := 256#32
  let v301 : BitVec 32 := Scalar.muli v300 c256_i32_219
  ![4800, v301.toNat]
def k0_off42 (i : grid0.Coords) : Fin 2 → Nat :=
  let c5120_i32_287 : BitVec 32 := 5120#32
  let c2_i32 : BitVec 32 := 2#32
  let arg0 : BitVec 32 := BitVec.ofNat 32 (i 0).val
  let v3 : BitVec 32 := Scalar.muli c2_i32 arg0
  let c2_i32_218 : BitVec 32 := 2#32
  let v300 : BitVec 32 := Scalar.addi v3 c2_i32_218
  let c256_i32_219 : BitVec 32 := 256#32
  let v301 : BitVec 32 := Scalar.muli v300 c256_i32_219
  ![5120, v301.toNat]
def k0_off43 (i : grid0.Coords) : Fin 2 → Nat :=
  let c5440_i32_291 : BitVec 32 := 5440#32
  let c2_i32 : BitVec 32 := 2#32
  let arg0 : BitVec 32 := BitVec.ofNat 32 (i 0).val
  let v3 : BitVec 32 := Scalar.muli c2_i32 arg0
  let c2_i32_218 : BitVec 32 := 2#32
  let v300 : BitVec 32 := Scalar.addi v3 c2_i32_218
  let c256_i32_219 : BitVec 32 := 256#32
  let v301 : BitVec 32 := Scalar.muli v300 c256_i32_219
  ![5440, v301.toNat]
def k0_off44 (i : grid0.Coords) : Fin 2 → Nat :=
  let c5760_i32_295 : BitVec 32 := 5760#32
  let c2_i32 : BitVec 32 := 2#32
  let arg0 : BitVec 32 := BitVec.ofNat 32 (i 0).val
  let v3 : BitVec 32 := Scalar.muli c2_i32 arg0
  let c2_i32_218 : BitVec 32 := 2#32
  let v300 : BitVec 32 := Scalar.addi v3 c2_i32_218
  let c256_i32_219 : BitVec 32 := 256#32
  let v301 : BitVec 32 := Scalar.muli v300 c256_i32_219
  ![5760, v301.toNat]
def k0_off45 (i : grid0.Coords) : Fin 2 → Nat :=
  let c6080_i32_299 : BitVec 32 := 6080#32
  let c2_i32 : BitVec 32 := 2#32
  let arg0 : BitVec 32 := BitVec.ofNat 32 (i 0).val
  let v3 : BitVec 32 := Scalar.muli c2_i32 arg0
  let c2_i32_218 : BitVec 32 := 2#32
  let v300 : BitVec 32 := Scalar.addi v3 c2_i32_218
  let c256_i32_219 : BitVec 32 := 256#32
  let v301 : BitVec 32 := Scalar.muli v300 c256_i32_219
  ![6080, v301.toNat]
def k0_off46 (i : grid0.Coords) : Fin 2 → Nat :=
  let c6400_i32_303 : BitVec 32 := 6400#32
  let c2_i32 : BitVec 32 := 2#32
  let arg0 : BitVec 32 := BitVec.ofNat 32 (i 0).val
  let v3 : BitVec 32 := Scalar.muli c2_i32 arg0
  let c2_i32_218 : BitVec 32 := 2#32
  let v300 : BitVec 32 := Scalar.addi v3 c2_i32_218
  let c256_i32_219 : BitVec 32 := 256#32
  let v301 : BitVec 32 := Scalar.muli v300 c256_i32_219
  ![6400, v301.toNat]
def k0_off47 (i : grid0.Coords) : Fin 2 → Nat :=
  let c6720_i32_307 : BitVec 32 := 6720#32
  let c2_i32 : BitVec 32 := 2#32
  let arg0 : BitVec 32 := BitVec.ofNat 32 (i 0).val
  let v3 : BitVec 32 := Scalar.muli c2_i32 arg0
  let c2_i32_218 : BitVec 32 := 2#32
  let v300 : BitVec 32 := Scalar.addi v3 c2_i32_218
  let c256_i32_219 : BitVec 32 := 256#32
  let v301 : BitVec 32 := Scalar.muli v300 c256_i32_219
  ![6720, v301.toNat]
def k0_off48 (i : grid0.Coords) : Fin 2 → Nat :=
  let c7040_i32_311 : BitVec 32 := 7040#32
  let c2_i32 : BitVec 32 := 2#32
  let arg0 : BitVec 32 := BitVec.ofNat 32 (i 0).val
  let v3 : BitVec 32 := Scalar.muli c2_i32 arg0
  let c2_i32_218 : BitVec 32 := 2#32
  let v300 : BitVec 32 := Scalar.addi v3 c2_i32_218
  let c256_i32_219 : BitVec 32 := 256#32
  let v301 : BitVec 32 := Scalar.muli v300 c256_i32_219
  ![7040, v301.toNat]
def k0_off49 (i : grid0.Coords) : Fin 2 → Nat :=
  let c7360_i32_315 : BitVec 32 := 7360#32
  let c2_i32 : BitVec 32 := 2#32
  let arg0 : BitVec 32 := BitVec.ofNat 32 (i 0).val
  let v3 : BitVec 32 := Scalar.muli c2_i32 arg0
  let c2_i32_218 : BitVec 32 := 2#32
  let v300 : BitVec 32 := Scalar.addi v3 c2_i32_218
  let c256_i32_219 : BitVec 32 := 256#32
  let v301 : BitVec 32 := Scalar.muli v300 c256_i32_219
  ![7360, v301.toNat]
def k0_off50 (i : grid0.Coords) : Fin 2 → Nat :=
  let c7680_i32_319 : BitVec 32 := 7680#32
  let c2_i32 : BitVec 32 := 2#32
  let arg0 : BitVec 32 := BitVec.ofNat 32 (i 0).val
  let v3 : BitVec 32 := Scalar.muli c2_i32 arg0
  let c2_i32_218 : BitVec 32 := 2#32
  let v300 : BitVec 32 := Scalar.addi v3 c2_i32_218
  let c256_i32_219 : BitVec 32 := 256#32
  let v301 : BitVec 32 := Scalar.muli v300 c256_i32_219
  ![7680, v301.toNat]
def k0_off51 (i : grid0.Coords) : Fin 2 → Nat :=
  let c0_i32_90 : BitVec 32 := 0#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c256_i32_86 : BitVec 32 := 256#32
  let v153 : BitVec 32 := Scalar.muli v152 c256_i32_86
  ![0, v153.toNat]
def k0_off52 (i : grid0.Coords) : Fin 2 → Nat :=
  let c320_i32_94 : BitVec 32 := 320#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c256_i32_86 : BitVec 32 := 256#32
  let v153 : BitVec 32 := Scalar.muli v152 c256_i32_86
  ![320, v153.toNat]
def k0_off53 (i : grid0.Coords) : Fin 2 → Nat :=
  let c640_i32_98 : BitVec 32 := 640#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c256_i32_86 : BitVec 32 := 256#32
  let v153 : BitVec 32 := Scalar.muli v152 c256_i32_86
  ![640, v153.toNat]
def k0_off54 (i : grid0.Coords) : Fin 2 → Nat :=
  let c960_i32_102 : BitVec 32 := 960#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c256_i32_86 : BitVec 32 := 256#32
  let v153 : BitVec 32 := Scalar.muli v152 c256_i32_86
  ![960, v153.toNat]
def k0_off55 (i : grid0.Coords) : Fin 2 → Nat :=
  let c1280_i32_106 : BitVec 32 := 1280#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c256_i32_86 : BitVec 32 := 256#32
  let v153 : BitVec 32 := Scalar.muli v152 c256_i32_86
  ![1280, v153.toNat]
def k0_off56 (i : grid0.Coords) : Fin 2 → Nat :=
  let c1600_i32_110 : BitVec 32 := 1600#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c256_i32_86 : BitVec 32 := 256#32
  let v153 : BitVec 32 := Scalar.muli v152 c256_i32_86
  ![1600, v153.toNat]
def k0_off57 (i : grid0.Coords) : Fin 2 → Nat :=
  let c1920_i32_114 : BitVec 32 := 1920#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c256_i32_86 : BitVec 32 := 256#32
  let v153 : BitVec 32 := Scalar.muli v152 c256_i32_86
  ![1920, v153.toNat]
def k0_off58 (i : grid0.Coords) : Fin 2 → Nat :=
  let c2240_i32_118 : BitVec 32 := 2240#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c256_i32_86 : BitVec 32 := 256#32
  let v153 : BitVec 32 := Scalar.muli v152 c256_i32_86
  ![2240, v153.toNat]
def k0_off59 (i : grid0.Coords) : Fin 2 → Nat :=
  let c2560_i32_122 : BitVec 32 := 2560#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c256_i32_86 : BitVec 32 := 256#32
  let v153 : BitVec 32 := Scalar.muli v152 c256_i32_86
  ![2560, v153.toNat]
def k0_off60 (i : grid0.Coords) : Fin 2 → Nat :=
  let c2880_i32_126 : BitVec 32 := 2880#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c256_i32_86 : BitVec 32 := 256#32
  let v153 : BitVec 32 := Scalar.muli v152 c256_i32_86
  ![2880, v153.toNat]
def k0_off61 (i : grid0.Coords) : Fin 2 → Nat :=
  let c3200_i32_130 : BitVec 32 := 3200#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c256_i32_86 : BitVec 32 := 256#32
  let v153 : BitVec 32 := Scalar.muli v152 c256_i32_86
  ![3200, v153.toNat]
def k0_off62 (i : grid0.Coords) : Fin 2 → Nat :=
  let c3520_i32_134 : BitVec 32 := 3520#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c256_i32_86 : BitVec 32 := 256#32
  let v153 : BitVec 32 := Scalar.muli v152 c256_i32_86
  ![3520, v153.toNat]
def k0_off63 (i : grid0.Coords) : Fin 2 → Nat :=
  let c3840_i32_138 : BitVec 32 := 3840#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c256_i32_86 : BitVec 32 := 256#32
  let v153 : BitVec 32 := Scalar.muli v152 c256_i32_86
  ![3840, v153.toNat]
def k0_off64 (i : grid0.Coords) : Fin 2 → Nat :=
  let c4160_i32_142 : BitVec 32 := 4160#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c256_i32_86 : BitVec 32 := 256#32
  let v153 : BitVec 32 := Scalar.muli v152 c256_i32_86
  ![4160, v153.toNat]
def k0_off65 (i : grid0.Coords) : Fin 2 → Nat :=
  let c4480_i32_146 : BitVec 32 := 4480#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c256_i32_86 : BitVec 32 := 256#32
  let v153 : BitVec 32 := Scalar.muli v152 c256_i32_86
  ![4480, v153.toNat]
def k0_off66 (i : grid0.Coords) : Fin 2 → Nat :=
  let c4800_i32_150 : BitVec 32 := 4800#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c256_i32_86 : BitVec 32 := 256#32
  let v153 : BitVec 32 := Scalar.muli v152 c256_i32_86
  ![4800, v153.toNat]
def k0_off67 (i : grid0.Coords) : Fin 2 → Nat :=
  let c5120_i32_154 : BitVec 32 := 5120#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c256_i32_86 : BitVec 32 := 256#32
  let v153 : BitVec 32 := Scalar.muli v152 c256_i32_86
  ![5120, v153.toNat]
def k0_off68 (i : grid0.Coords) : Fin 2 → Nat :=
  let c5440_i32_158 : BitVec 32 := 5440#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c256_i32_86 : BitVec 32 := 256#32
  let v153 : BitVec 32 := Scalar.muli v152 c256_i32_86
  ![5440, v153.toNat]
def k0_off69 (i : grid0.Coords) : Fin 2 → Nat :=
  let c5760_i32_162 : BitVec 32 := 5760#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c256_i32_86 : BitVec 32 := 256#32
  let v153 : BitVec 32 := Scalar.muli v152 c256_i32_86
  ![5760, v153.toNat]
def k0_off70 (i : grid0.Coords) : Fin 2 → Nat :=
  let c6080_i32_166 : BitVec 32 := 6080#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c256_i32_86 : BitVec 32 := 256#32
  let v153 : BitVec 32 := Scalar.muli v152 c256_i32_86
  ![6080, v153.toNat]
def k0_off71 (i : grid0.Coords) : Fin 2 → Nat :=
  let c6400_i32_170 : BitVec 32 := 6400#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c256_i32_86 : BitVec 32 := 256#32
  let v153 : BitVec 32 := Scalar.muli v152 c256_i32_86
  ![6400, v153.toNat]
def k0_off72 (i : grid0.Coords) : Fin 2 → Nat :=
  let c6720_i32_174 : BitVec 32 := 6720#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c256_i32_86 : BitVec 32 := 256#32
  let v153 : BitVec 32 := Scalar.muli v152 c256_i32_86
  ![6720, v153.toNat]
def k0_off73 (i : grid0.Coords) : Fin 2 → Nat :=
  let c7040_i32_178 : BitVec 32 := 7040#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c256_i32_86 : BitVec 32 := 256#32
  let v153 : BitVec 32 := Scalar.muli v152 c256_i32_86
  ![7040, v153.toNat]
def k0_off74 (i : grid0.Coords) : Fin 2 → Nat :=
  let c7360_i32_182 : BitVec 32 := 7360#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c256_i32_86 : BitVec 32 := 256#32
  let v153 : BitVec 32 := Scalar.muli v152 c256_i32_86
  ![7360, v153.toNat]
def k0_off75 (i : grid0.Coords) : Fin 2 → Nat :=
  let c7680_i32_186 : BitVec 32 := 7680#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c256_i32_86 : BitVec 32 := 256#32
  let v153 : BitVec 32 := Scalar.muli v152 c256_i32_86
  ![7680, v153.toNat]
def k0_cond3 (i : grid0.Coords) : BitVec 1 :=
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c2_i32_192 : BitVec 32 := 2#32
  let v258 : BitVec 32 := Scalar.addi v152 c2_i32_192
  let c16_i32_193 : BitVec 32 := 16#32
  let v259 : BitVec 1 := Scalar.cmpi .slt v258 c16_i32_193
  let v260 : BitVec 32 := Scalar.extui v259
  let c0_i32_194 : BitVec 32 := 0#32
  let v261 : BitVec 1 := Scalar.cmpi .ne v260 c0_i32_194
  v261

def k0_off76 (i : grid0.Coords) : Fin 2 → Nat :=
  let c0_i32_223 : BitVec 32 := 0#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c2_i32_218 : BitVec 32 := 2#32
  let v300 : BitVec 32 := Scalar.addi v152 c2_i32_218
  let c256_i32_219 : BitVec 32 := 256#32
  let v301 : BitVec 32 := Scalar.muli v300 c256_i32_219
  ![0, v301.toNat]
def k0_off77 (i : grid0.Coords) : Fin 2 → Nat :=
  let c320_i32_227 : BitVec 32 := 320#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c2_i32_218 : BitVec 32 := 2#32
  let v300 : BitVec 32 := Scalar.addi v152 c2_i32_218
  let c256_i32_219 : BitVec 32 := 256#32
  let v301 : BitVec 32 := Scalar.muli v300 c256_i32_219
  ![320, v301.toNat]
def k0_off78 (i : grid0.Coords) : Fin 2 → Nat :=
  let c640_i32_231 : BitVec 32 := 640#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c2_i32_218 : BitVec 32 := 2#32
  let v300 : BitVec 32 := Scalar.addi v152 c2_i32_218
  let c256_i32_219 : BitVec 32 := 256#32
  let v301 : BitVec 32 := Scalar.muli v300 c256_i32_219
  ![640, v301.toNat]
def k0_off79 (i : grid0.Coords) : Fin 2 → Nat :=
  let c960_i32_235 : BitVec 32 := 960#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c2_i32_218 : BitVec 32 := 2#32
  let v300 : BitVec 32 := Scalar.addi v152 c2_i32_218
  let c256_i32_219 : BitVec 32 := 256#32
  let v301 : BitVec 32 := Scalar.muli v300 c256_i32_219
  ![960, v301.toNat]
def k0_off80 (i : grid0.Coords) : Fin 2 → Nat :=
  let c1280_i32_239 : BitVec 32 := 1280#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c2_i32_218 : BitVec 32 := 2#32
  let v300 : BitVec 32 := Scalar.addi v152 c2_i32_218
  let c256_i32_219 : BitVec 32 := 256#32
  let v301 : BitVec 32 := Scalar.muli v300 c256_i32_219
  ![1280, v301.toNat]
def k0_off81 (i : grid0.Coords) : Fin 2 → Nat :=
  let c1600_i32_243 : BitVec 32 := 1600#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c2_i32_218 : BitVec 32 := 2#32
  let v300 : BitVec 32 := Scalar.addi v152 c2_i32_218
  let c256_i32_219 : BitVec 32 := 256#32
  let v301 : BitVec 32 := Scalar.muli v300 c256_i32_219
  ![1600, v301.toNat]
def k0_off82 (i : grid0.Coords) : Fin 2 → Nat :=
  let c1920_i32_247 : BitVec 32 := 1920#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c2_i32_218 : BitVec 32 := 2#32
  let v300 : BitVec 32 := Scalar.addi v152 c2_i32_218
  let c256_i32_219 : BitVec 32 := 256#32
  let v301 : BitVec 32 := Scalar.muli v300 c256_i32_219
  ![1920, v301.toNat]
def k0_off83 (i : grid0.Coords) : Fin 2 → Nat :=
  let c2240_i32_251 : BitVec 32 := 2240#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c2_i32_218 : BitVec 32 := 2#32
  let v300 : BitVec 32 := Scalar.addi v152 c2_i32_218
  let c256_i32_219 : BitVec 32 := 256#32
  let v301 : BitVec 32 := Scalar.muli v300 c256_i32_219
  ![2240, v301.toNat]
def k0_off84 (i : grid0.Coords) : Fin 2 → Nat :=
  let c2560_i32_255 : BitVec 32 := 2560#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c2_i32_218 : BitVec 32 := 2#32
  let v300 : BitVec 32 := Scalar.addi v152 c2_i32_218
  let c256_i32_219 : BitVec 32 := 256#32
  let v301 : BitVec 32 := Scalar.muli v300 c256_i32_219
  ![2560, v301.toNat]
def k0_off85 (i : grid0.Coords) : Fin 2 → Nat :=
  let c2880_i32_259 : BitVec 32 := 2880#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c2_i32_218 : BitVec 32 := 2#32
  let v300 : BitVec 32 := Scalar.addi v152 c2_i32_218
  let c256_i32_219 : BitVec 32 := 256#32
  let v301 : BitVec 32 := Scalar.muli v300 c256_i32_219
  ![2880, v301.toNat]
def k0_off86 (i : grid0.Coords) : Fin 2 → Nat :=
  let c3200_i32_263 : BitVec 32 := 3200#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c2_i32_218 : BitVec 32 := 2#32
  let v300 : BitVec 32 := Scalar.addi v152 c2_i32_218
  let c256_i32_219 : BitVec 32 := 256#32
  let v301 : BitVec 32 := Scalar.muli v300 c256_i32_219
  ![3200, v301.toNat]
def k0_off87 (i : grid0.Coords) : Fin 2 → Nat :=
  let c3520_i32_267 : BitVec 32 := 3520#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c2_i32_218 : BitVec 32 := 2#32
  let v300 : BitVec 32 := Scalar.addi v152 c2_i32_218
  let c256_i32_219 : BitVec 32 := 256#32
  let v301 : BitVec 32 := Scalar.muli v300 c256_i32_219
  ![3520, v301.toNat]
def k0_off88 (i : grid0.Coords) : Fin 2 → Nat :=
  let c3840_i32_271 : BitVec 32 := 3840#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c2_i32_218 : BitVec 32 := 2#32
  let v300 : BitVec 32 := Scalar.addi v152 c2_i32_218
  let c256_i32_219 : BitVec 32 := 256#32
  let v301 : BitVec 32 := Scalar.muli v300 c256_i32_219
  ![3840, v301.toNat]
def k0_off89 (i : grid0.Coords) : Fin 2 → Nat :=
  let c4160_i32_275 : BitVec 32 := 4160#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c2_i32_218 : BitVec 32 := 2#32
  let v300 : BitVec 32 := Scalar.addi v152 c2_i32_218
  let c256_i32_219 : BitVec 32 := 256#32
  let v301 : BitVec 32 := Scalar.muli v300 c256_i32_219
  ![4160, v301.toNat]
def k0_off90 (i : grid0.Coords) : Fin 2 → Nat :=
  let c4480_i32_279 : BitVec 32 := 4480#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c2_i32_218 : BitVec 32 := 2#32
  let v300 : BitVec 32 := Scalar.addi v152 c2_i32_218
  let c256_i32_219 : BitVec 32 := 256#32
  let v301 : BitVec 32 := Scalar.muli v300 c256_i32_219
  ![4480, v301.toNat]
def k0_off91 (i : grid0.Coords) : Fin 2 → Nat :=
  let c4800_i32_283 : BitVec 32 := 4800#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c2_i32_218 : BitVec 32 := 2#32
  let v300 : BitVec 32 := Scalar.addi v152 c2_i32_218
  let c256_i32_219 : BitVec 32 := 256#32
  let v301 : BitVec 32 := Scalar.muli v300 c256_i32_219
  ![4800, v301.toNat]
def k0_off92 (i : grid0.Coords) : Fin 2 → Nat :=
  let c5120_i32_287 : BitVec 32 := 5120#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c2_i32_218 : BitVec 32 := 2#32
  let v300 : BitVec 32 := Scalar.addi v152 c2_i32_218
  let c256_i32_219 : BitVec 32 := 256#32
  let v301 : BitVec 32 := Scalar.muli v300 c256_i32_219
  ![5120, v301.toNat]
def k0_off93 (i : grid0.Coords) : Fin 2 → Nat :=
  let c5440_i32_291 : BitVec 32 := 5440#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c2_i32_218 : BitVec 32 := 2#32
  let v300 : BitVec 32 := Scalar.addi v152 c2_i32_218
  let c256_i32_219 : BitVec 32 := 256#32
  let v301 : BitVec 32 := Scalar.muli v300 c256_i32_219
  ![5440, v301.toNat]
def k0_off94 (i : grid0.Coords) : Fin 2 → Nat :=
  let c5760_i32_295 : BitVec 32 := 5760#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c2_i32_218 : BitVec 32 := 2#32
  let v300 : BitVec 32 := Scalar.addi v152 c2_i32_218
  let c256_i32_219 : BitVec 32 := 256#32
  let v301 : BitVec 32 := Scalar.muli v300 c256_i32_219
  ![5760, v301.toNat]
def k0_off95 (i : grid0.Coords) : Fin 2 → Nat :=
  let c6080_i32_299 : BitVec 32 := 6080#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c2_i32_218 : BitVec 32 := 2#32
  let v300 : BitVec 32 := Scalar.addi v152 c2_i32_218
  let c256_i32_219 : BitVec 32 := 256#32
  let v301 : BitVec 32 := Scalar.muli v300 c256_i32_219
  ![6080, v301.toNat]
def k0_off96 (i : grid0.Coords) : Fin 2 → Nat :=
  let c6400_i32_303 : BitVec 32 := 6400#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c2_i32_218 : BitVec 32 := 2#32
  let v300 : BitVec 32 := Scalar.addi v152 c2_i32_218
  let c256_i32_219 : BitVec 32 := 256#32
  let v301 : BitVec 32 := Scalar.muli v300 c256_i32_219
  ![6400, v301.toNat]
def k0_off97 (i : grid0.Coords) : Fin 2 → Nat :=
  let c6720_i32_307 : BitVec 32 := 6720#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c2_i32_218 : BitVec 32 := 2#32
  let v300 : BitVec 32 := Scalar.addi v152 c2_i32_218
  let c256_i32_219 : BitVec 32 := 256#32
  let v301 : BitVec 32 := Scalar.muli v300 c256_i32_219
  ![6720, v301.toNat]
def k0_off98 (i : grid0.Coords) : Fin 2 → Nat :=
  let c7040_i32_311 : BitVec 32 := 7040#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c2_i32_218 : BitVec 32 := 2#32
  let v300 : BitVec 32 := Scalar.addi v152 c2_i32_218
  let c256_i32_219 : BitVec 32 := 256#32
  let v301 : BitVec 32 := Scalar.muli v300 c256_i32_219
  ![7040, v301.toNat]
def k0_off99 (i : grid0.Coords) : Fin 2 → Nat :=
  let c7360_i32_315 : BitVec 32 := 7360#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c2_i32_218 : BitVec 32 := 2#32
  let v300 : BitVec 32 := Scalar.addi v152 c2_i32_218
  let c256_i32_219 : BitVec 32 := 256#32
  let v301 : BitVec 32 := Scalar.muli v300 c256_i32_219
  ![7360, v301.toNat]
def k0_off100 (i : grid0.Coords) : Fin 2 → Nat :=
  let c7680_i32_319 : BitVec 32 := 7680#32
  let c2_i32_84 : BitVec 32 := 2#32
  let arg0 : BitVec 32 := BitVec.ofNat 32 (i 0).val
  let v151 : BitVec 32 := Scalar.muli c2_i32_84 arg0
  let c1_i32_85 : BitVec 32 := 1#32
  let v152 : BitVec 32 := Scalar.addi v151 c1_i32_85
  let c2_i32_218 : BitVec 32 := 2#32
  let v300 : BitVec 32 := Scalar.addi v152 c2_i32_218
  let c256_i32_219 : BitVec 32 := 256#32
  let v301 : BitVec 32 := Scalar.muli v300 c256_i32_219
  ![7680, v301.toNat]
def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x8000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S4096x8000 : Shape := ⟨2, ![4096, 8000]⟩
abbrev S4096x1024 : Shape := ⟨2, ![4096, 1024]⟩
abbrev S8000x64 : Shape := ⟨2, ![8000, 64]⟩
abbrev S64 : Shape := ⟨1, ![64]⟩
abbrev S1024x64 : Shape := ⟨2, ![1024, 64]⟩
abbrev S64x64x64 : Shape := ⟨3, ![64, 64, 64]⟩
abbrev S64x1 : Shape := ⟨2, ![64, 1]⟩
abbrev S1 : Shape := ⟨1, ![1]⟩
abbrev S4096x64 : Shape := ⟨2, ![4096, 64]⟩
abbrev S1x64 : Shape := ⟨2, ![1, 64]⟩
abbrev S_ : Shape := ⟨0, ![]⟩
abbrev S4096x1x64 : Shape := ⟨3, ![4096, 1, 64]⟩
abbrev S4096x64x64 : Shape := ⟨3, ![4096, 64, 64]⟩
abbrev S4096x1 : Shape := ⟨2, ![4096, 1]⟩
abbrev S1x1 : Shape := ⟨2, ![1, 1]⟩

abbrev nBuf : Space → Nat
  | .hbm => 40
  | .vmem => 0
  | .smem => 0
  | _ => 0

abbrev bufTy : (tb : Table) → Fin (tcTables nBuf tb) → BufTy
  | .hbm, ⟨0, _⟩ => ⟨S4096x8000, .f32⟩
  | .hbm, ⟨1, _⟩ => ⟨S4096x1024, .f32⟩
  | .hbm, ⟨2, _⟩ => ⟨S8000x64, .f32⟩
  | .hbm, ⟨3, _⟩ => ⟨S64, .f32⟩
  | .hbm, ⟨4, _⟩ => ⟨S1024x64, .f32⟩
  | .hbm, ⟨5, _⟩ => ⟨S64, .f32⟩
  | .hbm, ⟨6, _⟩ => ⟨S64x64x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S4096x64, .f32⟩
  | .hbm, ⟨11, _⟩ => ⟨S1x64, .f32⟩
  | .hbm, ⟨12, _⟩ => ⟨S4096x64, .f32⟩
  | .hbm, ⟨13, _⟩ => ⟨S4096x64, .f32⟩
  | .hbm, ⟨14, _⟩ => ⟨S_, .f32⟩
  | .hbm, ⟨15, _⟩ => ⟨S4096x64, .f32⟩
  | .hbm, ⟨16, _⟩ => ⟨S4096x64, .f32⟩
  | .hbm, ⟨17, _⟩ => ⟨S4096x64, .f32⟩
  | .hbm, ⟨18, _⟩ => ⟨S1x64, .f32⟩
  | .hbm, ⟨19, _⟩ => ⟨S4096x64, .f32⟩
  | .hbm, ⟨20, _⟩ => ⟨S4096x64, .f32⟩
  | .hbm, ⟨21, _⟩ => ⟨S_, .f32⟩
  | .hbm, ⟨22, _⟩ => ⟨S4096x64, .f32⟩
  | .hbm, ⟨23, _⟩ => ⟨S4096x64, .f32⟩
  | .hbm, ⟨24, _⟩ => ⟨S4096x1x64, .f32⟩
  | .hbm, ⟨25, _⟩ => ⟨S4096x64x64, .f32⟩
  | .hbm, ⟨26, _⟩ => ⟨S4096x64x64, .f32⟩
  | .hbm, ⟨27, _⟩ => ⟨S4096x64x64, .f32⟩
  | .hbm, ⟨28, _⟩ => ⟨S_, .f32⟩
  | .hbm, ⟨29, _⟩ => ⟨S4096x64, .f32⟩
  | .hbm, ⟨30, _⟩ => ⟨S1x64, .f32⟩
  | .hbm, ⟨31, _⟩ => ⟨S4096x64, .f32⟩
  | .hbm, ⟨32, _⟩ => ⟨S4096x64, .f32⟩
  | .hbm, ⟨33, _⟩ => ⟨S_, .f32⟩
  | .hbm, ⟨34, _⟩ => ⟨S4096x64, .f32⟩
  | .hbm, ⟨35, _⟩ => ⟨S4096x64, .f32⟩
  | .hbm, ⟨36, _⟩ => ⟨S4096x1, .f32⟩
  | .hbm, ⟨37, _⟩ => ⟨S1x1, .f32⟩
  | .hbm, ⟨38, _⟩ => ⟨S4096x1, .f32⟩
  | .hbm, ⟨39, _⟩ => ⟨S4096x1, .f32⟩
  | _, _ => ⟨S4096x8000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_call2_cst : Ref sig .tc := ⟨.hbm, 33, rfl⟩
abbrev main_call2_v0 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩

abbrev nD : Nat := 1
abbrev τ : Topo := Topo.v7x

variable {F : FTy → Type} [FloatOps F]
-- ==== Proof.Chunks.lean ====
/-
  A buffer filled by a family of copies, one semaphore to each: the buffer is cut into blocks, block `j` is the
  destination of a copy out of a block of an array left in HBM, and the copy completes on semaphore `j`. The kernel
  issues a list of the copies in a row and waits for a list of them in a row. Each list is a program by recursion on
  the list of block numbers, and each has one rule, proved by induction: a block goes from idle (its elements at
  anything, its counter at zero) to flying (its copy issued) to full (its elements at what the copy brings, its
  counter at zero again). The file is about no particular kernel.
-/
module

public import Idealize.ShloMosaic.Lib.Transfers
public import Idealize.ShloMosaic.Lib.Ring
public import Idealize.ShloMosaic.Lib.VecWindow
public import Idealize.ShloMosaic.Lib.Writes
public import Idealize.ShloMosaic.Lib.Tactic

@[expose] public section

noncomputable section

namespace Cert.Chunks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {nD : Nat} {τ : Topo} {sig : RefSig} {Ix : Type} [DecidableEq Ix] {Val : EltTy → Type} {Name : Type} [DecidableEq Name]
variable {U : Type} [URA U] {Lvl : Type} [Preorder Lvl]

local notation "𝕄" => MT nD τ sig Ix Val Name U Lvl

variable {Λ : Labels} {n : ℕ} {κ : Kind} {s : Shape}

/-! ## The programs -/

/-- Issue the copies numbered in the list, in the list's order. -/
def issues (p : Proc τ) (src : Fin n → Memref sig p.kind .hbm s .f32) (dst : Fin n → Memref sig p.kind .vmem s .f32)
    (sm : Fin n → DmaSem sig) : List (Fin n) → Prog (TpuEff nD τ sig Val Λ p) PUnit
  | [] => pure ⟨⟩
  | j :: L => do
    Prog.lift (.enqueueDma (src j) (.here (dst j)) (.dma (sm j)) (View.wordExact_bits rfl) (View.wordExact_bits rfl)
      ⟨Or.inl rfl, trivial⟩)
    issues p src dst sm L

/-- Wait for the copies numbered in the list, in the list's order. -/
def waits (p : Proc τ) (src : Fin n → Memref sig p.kind .hbm s .f32) (dst : Fin n → Memref sig p.kind .vmem s .f32)
    (sm : Fin n → DmaSem sig) : List (Fin n) → Prog (TpuEff nD τ sig Val Λ p) PUnit
  | [] => pure ⟨⟩
  | j :: L => do
    Prog.lift (.waitDma2 (sm j) (src j) (dst j) (View.wordExact_bits rfl) (View.wordExact_bits rfl))
    waits p src dst sm L

/-- Issuing two lists in a row is issuing the one they make. -/
theorem issues_append {p : Proc τ} (src : Fin n → Memref sig p.kind .hbm s .f32) (dst : Fin n → Memref sig p.kind .vmem s .f32)
    (sm : Fin n → DmaSem sig) (L L' : List (Fin n)) :
    (issues p src dst sm (L ++ L') : Prog (TpuEff nD τ sig Val Λ p) PUnit)
      = issues p src dst sm L >>= fun _ => issues p src dst sm L' := by
  induction L with
  | nil => rfl
  | cons j L ih => simp only [List.cons_append, issues, ih, Prog.bind_assoc]

/-- Waiting for two lists in a row is waiting for the one they make. -/
theorem waits_append {p : Proc τ} (src : Fin n → Memref sig p.kind .hbm s .f32) (dst : Fin n → Memref sig p.kind .vmem s .f32)
    (sm : Fin n → DmaSem sig) (L L' : List (Fin n)) :
    (waits p src dst sm (L ++ L') : Prog (TpuEff nD τ sig Val Λ p) PUnit)
      = waits p src dst sm L >>= fun _ => waits p src dst sm L' := by
  induction L with
  | nil => rfl
  | cons j L ih => simp only [List.cons_append, waits, ih, Prog.bind_assoc]

/-! ## The blocks and their states -/

section Blocks

variable {ρ : ℕ} {dB dH z : Fin ρ → ℕ}

/-- The block of a memref at the offsets `od j`, of sizes `z`. -/
abbrev blk {sp : Space} (m : Memref sig κ sp ⟨ρ, dB⟩ .f32) (od : Fin n → Fin ρ → ℕ) (hB : ∀ j a, od j a + z a ≤ dB a) (j : Fin n) :
    Memref sig κ sp ⟨ρ, z⟩ .f32 :=
  m.slice (Rect.unit (s := ⟨ρ, dB⟩) (od j) z (hB j)) (fun _ => rfl)

variable (EC : UEmb Counters (MT nD τ sig Ix Val Name U Lvl)) (ι : Ix) (c : Thread nD τ)
variable (buf : Memref sig c.2.kind .vmem ⟨ρ, dB⟩ .f32) (hbm : Memref sig c.2.kind .hbm ⟨ρ, dH⟩ .f32)
variable (od : Fin n → Fin ρ → ℕ) (hB : ∀ j a, od j a + z a ≤ dB a)
variable (sm : Fin n → DmaSem sig) (q : Fin n → PosShare TreeShare)
variable (P : Buf Val (hbm.view.loc c)) (G : Buf Val (buf.view.loc c))

/-- Block `j` holds anything, its counter is at zero, and its share of the array in HBM is at hand. -/
def Idle (j : Fin n) : sProp 𝕄 :=
  iprop((∃ f, buf.view.loc c ↦[(blk buf od hB j).view.set]{fullShare} f) ∗ semVal (c, .dma (sm j)) 0
    ∗ (hbm.view.loc c ↦{q j} P))

/-- Block `j` holds what its copy brings, its counter is at zero, and its share of the array is at hand. -/
def Full (j : Fin n) : sProp 𝕄 :=
  iprop((buf.view.loc c ↦[(blk buf od hB j).view.set]{fullShare} G) ∗ semVal (c, .dma (sm j)) 0
    ∗ (hbm.view.loc c ↦{q j} P))

/-- Block `j`'s copy is in flight: it will deliver the block at `G` and the share of the elements it reads (of some part
    `R` of the array), the rest of the share being at hand. -/
def Flying (j : Fin n) : sProp 𝕄 :=
  iprop(∃ R : Finset (Idx (hbm.view.loc c)),
    Flight EC c (.dma (sm j)) ι ((blk buf od hB j).view.dmaCredit)
        iprop((buf.view.loc c ↦[(blk buf od hB j).view.set]{fullShare} G) ∗ (hbm.view.loc c ↦[R]{q j} P))
      ∗ (hbm.view.loc c ↦[Finset.univ \ R]{q j} P))

/-- A full block is an idle one. -/
theorem idle_of_full (j : Fin n) :
    (Full c buf hbm od hB sm q P G j : sProp 𝕄) ⊢ Idle c buf hbm od hB sm q P j := by
  unfold Full Idle
  iintro ⟨H, H1, H2⟩
  isplitl [H]; · iexists G; iexact H
  isplitl [H1] <;> iassumption

/-! ## The two rules -/

/-- The elements a copy writes hold, after it, what it read. -/
theorem write_agrees {v : View sig κ .vmem s .f32} (f g : v.ty.Contents Val) (w : s.Idx → Val .f32)
    (h : v.read Val g = w) : ∀ i ∈ v.set, v.write Val f w Finset.univ i = g i := by
  intro i hi
  obtain ⟨x, -, rfl⟩ := Finset.mem_map.mp hi
  rw [View.write_emb_of_mem _ _ (Finset.mem_univ x), ← h, View.read_apply, cast_cast, cast_eq]

variable [Infinite Name] [EC.LandsIn (upEmb : UEmb _ (MT nD τ sig Ix Val Name U Lvl))]
variable {defs : Defs nD τ sig Val Λ} (𝒱 : Variants) (bd : Option 𝒱.V)
variable (os : Fin n → Fin ρ → ℕ) (hH : ∀ j a, os j a + z a ≤ dH a)

/-- One copy of an idle block, issued, is in flight. -/
theorem wp_issue {α : Type} (hz : 0 < (⟨ρ, z⟩ : Shape).numel) (j : Fin n)
    (hG : (blk buf od hB j).view.read Val G = (blk hbm os hH j).view.read Val P)
    (k : PUnit → Prog (TpuEff nD τ sig Val Λ c.2) α) (Q : α → sProp 𝕄) :
    iprop(Idle c buf hbm od hB sm q P j
        ∗ (Flying EC ι c buf hbm od hB sm q P G j -∗ wp frame (wpE defs 𝒱 c bd) Set.univ (k ⟨⟩) Q))
      ⊢ wp frame (wpE defs 𝒱 c bd) Set.univ
          (.op (.enqueueDma (blk hbm os hH j) (.here (blk buf od hB j)) (.dma (sm j)) (View.wordExact_bits rfl)
            (View.wordExact_bits rfl) ⟨Or.inl rfl, trivial⟩) k) Q := by
  unfold Idle
  iintro ⟨⟨⟨%f, Hd⟩, Hv, Hs⟩, Hk⟩
  ihave Hs2 := (pointsTo_split_subset (Finset.subset_univ (blk hbm os hH j).view.set)).1 $$ Hs
  icases Hs2 with ⟨Hs, Hr⟩
  iapply (wp_dmaLocal EC 𝒱 c bd (src := blk hbm os hH j) (dst := blk buf od hB j) (via := ReadAs.same)
    (Sd := (blk buf od hB j).view.set) (q := q j) (fs := P) (fd := f) ι _ rfl
    (View.dmaCredit_pos _ hz) (Finset.Subset.refl _)) $$ [Hs Hd Hv]
  · isplitl [Hs]; · iexact Hs
    isplitl [Hd] <;> iassumption
  iintro HF
  iapply Hk
  unfold Flying
  iexists (blk hbm os hH j).view.set
  isplitl [HF]
  · iapply (Flight_mono EC c (show _ ⊢ _ from sep_mono_left (Entails.of_eq (pointsTo_congr
      (write_agrees (v := (blk buf od hB j).view) f G _ hG))))) $$ HF
  · iexact Hr

/-- Waiting for a copy in flight fills its block. -/
theorem wp_wait {α : Type} (j : Fin n)
    (k : PUnit → Prog (TpuEff nD τ sig Val Λ c.2) α) (Q : α → sProp 𝕄) :
    iprop(Flying EC ι c buf hbm od hB sm q P G j ∗ iprop(∃ W, owes c 0 W)
        ∗ (Full c buf hbm od hB sm q P G j -∗ iprop(∃ W, owes c 0 W) -∗ wp frame (wpE defs 𝒱 c bd) Set.univ (k ⟨⟩) Q))
      ⊢ wp frame (wpE defs 𝒱 c bd) Set.univ
          (.op (.waitDma2 (sm j) (blk hbm os hH j) (blk buf od hB j) (View.wordExact_bits rfl)
            (View.wordExact_bits rfl)) k) Q := by
  unfold Flying
  iintro ⟨⟨%R, HF, Hr⟩, ⟨%W, HW⟩, Hk⟩
  iapply (wp_waitLocal EC 𝒱 c bd (dstw := blk buf od hB j) ι rfl) $$ [HF HW]
  · isplitl [HF] <;> iassumption
  iintro ⟨⟨Hd, Hs⟩, Hv, HW⟩
  ihave Hs := (pointsTo_split_subset (Finset.subset_univ R)).2 $$ [Hs Hr]
  · isplitl [Hs] <;> iassumption
  ispecialize Hk $$ [Hd Hv Hs]
  · unfold Full
    isplitl [Hd]; · iexact Hd
    isplitl [Hv] <;> iassumption
  iapply Hk
  iexists _; iexact HW

/-! ## Lists of copies -/

/-- A family over a set with one more member is that member's beside the rest's. -/
theorem bigSep_cons {S : Finset (Fin n)} {j : Fin n} (hj : j ∉ S) (Φ : Fin n → sProp 𝕄) :
    bigSep (insert j S) Φ = iprop(Φ j ∗ bigSep S Φ) := BI.bigSep_insert hj

/-- Issuing a list of copies, no two the same, each of an idle block, leaves them in flight. -/
theorem wp_issues (hz : 0 < (⟨ρ, z⟩ : Shape).numel)
    (hG : ∀ j, (blk buf od hB j).view.read Val G = (blk hbm os hH j).view.read Val P) :
    ∀ (L : List (Fin n)) (_ : L.Nodup) (Q : PUnit → sProp 𝕄),
      iprop(bigSep L.toFinset (Idle c buf hbm od hB sm q P) ∗ (bigSep L.toFinset (Flying EC ι c buf hbm od hB sm q P G) -∗ Q ⟨⟩))
        ⊢ wp frame (wpE defs 𝒱 c bd) Set.univ (issues c.2 (blk hbm os hH) (blk buf od hB) sm L) Q
  | [], _, Q => by
    simp only [issues, List.toFinset_nil, bigSep_empty, wp_pure]
    iintro ⟨He, Hk⟩
    imodintro
    iapply Hk; iexact He
  | j :: L, hL, Q => by
    have hj : j ∉ L.toFinset := by simpa using (List.nodup_cons.mp hL).1
    rw [List.toFinset_cons, bigSep_cons hj, bigSep_cons hj]
    iintro ⟨⟨Hj, HL⟩, Hk⟩
    iapply (wp_issue EC ι c buf hbm od hB sm q P G 𝒱 bd os hH hz j (hG j)
      (fun _ => issues c.2 (blk hbm os hH) (blk buf od hB) sm L) Q)
    isplitl [Hj]; · iexact Hj
    iintro HF
    iapply (wp_issues hz hG L (List.nodup_cons.mp hL).2 Q)
    isplitl [HL]; · iexact HL
    iintro HL
    iapply Hk
    isplitl [HF] <;> iassumption

/-- Waiting for a list of copies in flight, no two the same, fills their blocks. -/
theorem wp_waits :
    ∀ (L : List (Fin n)) (_ : L.Nodup) (Q : PUnit → sProp 𝕄),
      iprop(bigSep L.toFinset (Flying EC ι c buf hbm od hB sm q P G) ∗ iprop(∃ W, owes c 0 W)
          ∗ (bigSep L.toFinset (Full c buf hbm od hB sm q P G) -∗ iprop(∃ W, owes c 0 W) -∗ Q ⟨⟩))
        ⊢ wp frame (wpE defs 𝒱 c bd) Set.univ (waits c.2 (blk hbm os hH) (blk buf od hB) sm L) Q
  | [], _, Q => by
    simp only [waits, List.toFinset_nil, bigSep_empty, wp_pure]
    iintro ⟨He, HW, Hk⟩
    imodintro
    iapply Hk $$ He HW
  | j :: L, hL, Q => by
    have hj : j ∉ L.toFinset := by simpa using (List.nodup_cons.mp hL).1
    rw [List.toFinset_cons, bigSep_cons hj, bigSep_cons hj]
    iintro ⟨⟨Hj, HL⟩, HW, Hk⟩
    iapply (wp_wait EC ι c buf hbm od hB sm q P G 𝒱 bd os hH j
      (fun _ => waits c.2 (blk hbm os hH) (blk buf od hB) sm L) Q)
    isplitl [Hj]; · iexact Hj
    isplitl [HW]; · iexact HW
    iintro HF HW
    iapply (wp_waits L (List.nodup_cons.mp hL).2 Q)
    isplitl [HL]; · iexact HL
    isplitl [HW]; · iexact HW
    iintro HL
    iapply Hk
    isplitl [HF] <;> iassumption

/-! ## The blocks together -/

/-- A family of triples is the three families. -/
theorem bigSep_three (S : Finset (Fin n)) (Φ Ψ Χ : Fin n → sProp 𝕄) :
    bigSep S (fun j => iprop(Φ j ∗ Ψ j ∗ Χ j)) = iprop(bigSep S Φ ∗ bigSep S Ψ ∗ bigSep S Χ) := by
  have e1 : bigSep S (fun j => iprop(Ψ j ∗ Χ j)) = iprop(bigSep S Ψ ∗ bigSep S Χ) := BI.bigSep_sep _ _ _
  have e2 : bigSep S (fun j => iprop(Φ j ∗ Ψ j ∗ Χ j)) = iprop(bigSep S Φ ∗ bigSep S (fun j => iprop(Ψ j ∗ Χ j))) := BI.bigSep_sep _ _ _
  rw [e2, e1]

section Whole

variable (hd : ∀ j j' : Fin n, j ≠ j' → Disjoint (Rect.unit (s := ⟨ρ, dB⟩) (od j) z (hB j)).set (Rect.unit (s := ⟨ρ, dB⟩) (od j') z (hB j')).set)
variable (hcov : Finset.univ.biUnion (fun j : Fin n => (Rect.unit (s := ⟨ρ, dB⟩) (od j) z (hB j)).set) = Finset.univ)
include hd hcov

/-- The elements of the buffer at one contents are each block's, where the blocks are disjoint and cover it. -/
theorem blocks_eq (f : Buf Val (buf.view.loc c)) :
    (buf.view.loc c ↦[buf.view.set]{fullShare} f : sProp 𝕄)
      = bigSep Finset.univ fun j => buf.view.loc c ↦[(blk buf od hB j).view.set]{fullShare} f := by
  rw [pointsTo_rects c buf fullShare (fun j => Rect.unit (s := ⟨ρ, dB⟩) (od j) z (hB j)) (fun _ _ => rfl) hd hcov f]
  exact BI.bigSep_congr fun j _ => owns_slice_read c buf fullShare _ _ f

/-- The buffer at any contents, the semaphores at zero and a share of the array for each copy: every block idle. -/
theorem idles_of (X : (⟨ρ, dB⟩ : Shape).Idx → Val .f32) :
    iprop(owns c buf fullShare X ∗ bigSep Finset.univ (fun j => semVal (c, SemLoc.dma (sm j)) 0)
        ∗ bigSep Finset.univ (fun j => hbm.view.loc c ↦{q j} P))
      ⊢ bigSep Finset.univ (Idle (Ix := Ix) (Name := Name) (U := U) (Lvl := Lvl) c buf hbm od hB sm q P) := by
  unfold owns
  iintro ⟨⟨%f, -, Hb⟩, Hs, Ht⟩
  ihave Hb := (Entails.of_eq (blocks_eq c buf od hB hd hcov f)) $$ Hb
  have h : bigSep Finset.univ (fun j => iprop((buf.view.loc c ↦[(blk buf od hB j).view.set]{fullShare} f)
        ∗ semVal (c, SemLoc.dma (sm j)) 0 ∗ (hbm.view.loc c ↦{q j} P)))
      ⊢ (bigSep Finset.univ (Idle c buf hbm od hB sm q P) : sProp 𝕄) := by
    exact BI.bigSep_mono fun j _ => idle_of_full c buf hbm od hB sm q P f j
  iapply h
  iapply (Entails.of_eq (bigSep_three Finset.univ _ _ _).symm)
  isplitl [Hb]; · iexact Hb
  isplitl [Hs] <;> iassumption

/-- Every block full: the buffer whole at the contents, the semaphores at zero and the shares of the array. -/
theorem fulls_join :
    bigSep Finset.univ (Full (Ix := Ix) (Name := Name) (U := U) (Lvl := Lvl) c buf hbm od hB sm q P G)
      ⊢ iprop(owns c buf fullShare (buf.view.read Val G) ∗ bigSep Finset.univ (fun j => semVal (c, SemLoc.dma (sm j)) 0)
        ∗ bigSep Finset.univ (fun j => hbm.view.loc c ↦{q j} P)) := by
  rw [show bigSep Finset.univ (Full c buf hbm od hB sm q P G)
      = (bigSep Finset.univ (fun j => iprop((buf.view.loc c ↦[(blk buf od hB j).view.set]{fullShare} G)
        ∗ semVal (c, SemLoc.dma (sm j)) 0 ∗ (hbm.view.loc c ↦{q j} P))) : sProp 𝕄) from rfl, bigSep_three]
  rw [← blocks_eq c buf od hB hd hcov G]
  iintro ⟨Hb, Hs⟩
  isplitl [Hb]
  · iapply (owns_intro c buf fullShare G); iexact Hb
  iexact Hs

end Whole

end Blocks

/-! ## Loads and stores of a memref held by what it reads -/

section Owned

variable {c : Thread nD τ} {defs : Defs nD τ sig Val Λ} (𝒱 : Variants) (bd : Option 𝒱.V)
variable {Ix : Type} [DecidableEq Ix] {Name : Type} [DecidableEq Name] {U : Type} [URA U] {Lvl : Type} [Preorder Lvl]
variable {α : Type} {cs : CoreSpace} {sh : Shape} {e : EltTy} {m : Memref sig c.2.kind cs sh e} {q : PosShare TreeShare} {X : sh.Idx → Val e}
  {Q : α → sProp (MT nD τ sig Ix Val Name U Lvl)}

/-- A load of the whole memref reads what it is held at. -/
theorem wp_load_full {off : Fin sh.rank → ℕ} {inb : ∀ a, off a + sh.size a ≤ sh.size a}
    {hl : m.view.LoadsAt (Rect.unit off sh.size inb).toLoadRect} {k : (sh.Idx → Val e) → Prog (TpuEff nD τ sig Val Λ c.2) α} :
    iprop(owns c m q X ∗ (owns c m q X -∗ wp frame (wpE defs 𝒱 c bd) Set.univ (k X) Q))
      ⊢ wp frame (wpE defs 𝒱 c bd) Set.univ (Prog.lift (.load m (Rect.unit off sh.size inb).toLoadRect hl) >>= k) Q := by
  show _ ⊢ wp frame (wpE defs 𝒱 c bd) Set.univ (.op (.load m (Rect.unit off sh.size inb).toLoadRect hl) k) Q
  unfold owns
  iintro ⟨⟨%f, %hf, H⟩, Hk⟩
  iapply (wp_load 𝒱 c bd Set.univ (m := m) (S := m.view.set) (q := q) (f := f) (m.view.setOn_subset_set _)) $$ H
  iintro H
  rw [View.readAt_full, hf]
  iapply Hk
  iexists f; isplitr; · ipureintro; exact hf
  iexact H

/-- A load of a part reads that part of it. -/
theorem wp_load_part {r : Rect sh} {hl : m.view.LoadsAt r.toLoadRect} {k : (r.shape.Idx → Val e) → Prog (TpuEff nD τ sig Val Λ c.2) α} :
    iprop(owns c m q X ∗ (owns c m q X -∗ wp frame (wpE defs 𝒱 c bd) Set.univ (k (fun y => X (r.emb y))) Q))
      ⊢ wp frame (wpE defs 𝒱 c bd) Set.univ (Prog.lift (.load m r.toLoadRect hl) >>= k) Q := by
  show _ ⊢ wp frame (wpE defs 𝒱 c bd) Set.univ (.op (.load m r.toLoadRect hl) k) Q
  unfold owns
  iintro ⟨⟨%f, %hf, H⟩, Hk⟩
  iapply (wp_load 𝒱 c bd Set.univ (m := m) (S := m.view.set) (q := q) (f := f) (m.view.setOn_subset_set _)) $$ H
  iintro H
  rw [show m.view.readAt Val r.toLoadRect f = fun y => X (r.emb y) from funext fun y => congrFun hf (r.emb y)]
  iapply Hk
  iexists f; isplitr; · ipureintro; exact hf
  iexact H

/-- A store through a rectangle lays its payload over what the memref is held at. -/
theorem wp_store_part {r : Rect sh} {w : r.shape.Idx → Val e} {hx : (m.access r).Stores Finset.univ}
    {hm : (Finset.univ : Finset r.shape.Idx) = Finset.univ ∨ ∀ a, r.stride a = 1} {Q : PUnit → sProp (MT nD τ sig Ix Val Name U Lvl)} :
    iprop(owns c m fullShare X ∗ (owns c m fullShare (r.overlay X w) -∗ Q ⟨⟩))
      ⊢ wp frame (wpE defs 𝒱 c bd) Set.univ (Prog.lift (.store m r w Finset.univ hx hm)) Q := by
  show _ ⊢ wp frame (wpE defs 𝒱 c bd) Set.univ (.op (.store m r w Finset.univ hx hm) fun x => pure x) Q
  unfold owns
  iintro ⟨⟨%f, %hf, H⟩, Hk⟩
  iapply (wp_store 𝒱 c bd Set.univ (m := m) (r := r) (S := m.view.set) (f := f) (Memref.setOn_access_subset m r _)) $$ H
  iintro H
  rw [wp_pure]
  imodintro
  iapply Hk
  iexists _; isplitr
  swap; · iexact H
  ipureintro
  funext y
  by_cases hy : y ∈ r.set
  · obtain ⟨x, rfl⟩ := r.exists_idx_of_mem hy
    show _ = r.overlay X w (r.emb x)
    rw [Rect.overlay_emb]
    exact View.read_slice_write_emb r f w (Finset.mem_univ x)
  · rw [Rect.overlay_of_not_mem _ _ _ hy, ← hf]
    exact View.read_slice_write_of_not_mem r f w _ (by rwa [Rect.map_emb_univ])

end Owned

end Cert.Chunks

end

end
-- ==== Proof.KernelIdealCopies.lean ====
/-
  The kernel function of `KernelIdeal` restated over lists of copies. Its text is cut into parts of some sixty statements,
  each copy and each wait its own statement; here the twenty-five copies of a block of columns are one program over the
  list of their numbers (`Cert.Chunks.issues`, `Cert.Chunks.waits`), and what stays in between are the loads, the
  computation and the stores. Each restatement holds by unfolding.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Chunks

@[expose] public section

noncomputable section

namespace Cert.KernelIdeal.Hand

open Cert.KernelIdeal Cert.KernelIdeal.Gen
open Cert.Chunks
open Idealize.ShloMosaic Idealize.ShloMosaic.TcCoe
open Idealize.SL.Sem

variable {F : FTy → Type} [FloatOps F]

/-! ## The copies' ends and their semaphores -/

/-- The rows a copy fills of its buffer: copy `j` rows `320 j` to `320 j + 319`, all 256 columns. -/
abbrev odst (j : Fin 25) : Fin 2 → ℕ := ![320 * j.val, 0]
theorem odst_inb : ∀ (j : Fin 25) (a : Fin 2), odst j a + S320x256.size a ≤ S8000x256.size a := by decide

/-- Copy `j`'s part of a buffer. -/
abbrev bdst (arg : Memref sig .tc .vmem S8000x256 .f32) : Fin 25 → Memref sig .tc .vmem S320x256 .f32 :=
  blk arg odst odst_inb

/-- The rows copy `j` reads of the transposed array: the rows it fills, of the 256 columns of column block `b`. -/
abbrev osrc (b : ℕ) (j : Fin 25) : Fin 2 → ℕ := ![320 * j.val, 256 * b]
theorem osrc_inb {b : ℕ} (hb : b < 16) : ∀ (j : Fin 25) (a : Fin 2), osrc b j a + S320x256.size a ≤ S8000x4096.size a := by
  intro j a
  have := j.isLt
  match a with
  | 0 => show 320 * j.val + 320 ≤ 8000; omega
  | 1 => show 256 * b + 256 ≤ 4096; omega

/-- The offsets the kernel computes for its waits on the first buffer, for its waits on the second, and for the copies it
    issues again into each. -/
abbrev oWA (i : grid0.Coords) : Fin 25 → Fin 2 → ℕ := ![k0_off1 i, k0_off2 i, k0_off3 i, k0_off4 i, k0_off5 i, k0_off6 i, k0_off7 i, k0_off8 i, k0_off9 i, k0_off10 i, k0_off11 i, k0_off12 i, k0_off13 i, k0_off14 i, k0_off15 i, k0_off16 i, k0_off17 i, k0_off18 i, k0_off19 i, k0_off20 i, k0_off21 i, k0_off22 i, k0_off23 i, k0_off24 i, k0_off25 i]
abbrev oWB (i : grid0.Coords) : Fin 25 → Fin 2 → ℕ := ![k0_off51 i, k0_off52 i, k0_off53 i, k0_off54 i, k0_off55 i, k0_off56 i, k0_off57 i, k0_off58 i, k0_off59 i, k0_off60 i, k0_off61 i, k0_off62 i, k0_off63 i, k0_off64 i, k0_off65 i, k0_off66 i, k0_off67 i, k0_off68 i, k0_off69 i, k0_off70 i, k0_off71 i, k0_off72 i, k0_off73 i, k0_off74 i, k0_off75 i]
abbrev oIA (i : grid0.Coords) : Fin 25 → Fin 2 → ℕ := ![k0_off26 i, k0_off27 i, k0_off28 i, k0_off29 i, k0_off30 i, k0_off31 i, k0_off32 i, k0_off33 i, k0_off34 i, k0_off35 i, k0_off36 i, k0_off37 i, k0_off38 i, k0_off39 i, k0_off40 i, k0_off41 i, k0_off42 i, k0_off43 i, k0_off44 i, k0_off45 i, k0_off46 i, k0_off47 i, k0_off48 i, k0_off49 i, k0_off50 i]
abbrev oIB (i : grid0.Coords) : Fin 25 → Fin 2 → ℕ := ![k0_off76 i, k0_off77 i, k0_off78 i, k0_off79 i, k0_off80 i, k0_off81 i, k0_off82 i, k0_off83 i, k0_off84 i, k0_off85 i, k0_off86 i, k0_off87 i, k0_off88 i, k0_off89 i, k0_off90 i, k0_off91 i, k0_off92 i, k0_off93 i, k0_off94 i, k0_off95 i, k0_off96 i, k0_off97 i, k0_off98 i, k0_off99 i, k0_off100 i]

theorem oWA_eq : ∀ (i : grid0.Coords) (j : Fin 25), oWA i j = osrc (2 * (i 0).val) j := by decide +kernel
theorem oWB_eq : ∀ (i : grid0.Coords) (j : Fin 25), oWB i j = osrc (2 * (i 0).val + 1) j := by decide +kernel
theorem oIA_eq : ∀ (i : grid0.Coords) (j : Fin 25), oIA i j = osrc (2 * (i 0).val + 2) j := by decide +kernel
theorem oIB_eq : ∀ (i : grid0.Coords) (j : Fin 25), oIB i j = osrc (2 * (i 0).val + 3) j := by decide +kernel

/-- The first point is where the kernel starts the pipeline; -/
abbrev first (i : grid0.Coords) : Prop :=
  Scalar.cmpi .ne (Scalar.extui (Scalar.cmpi .eq (BitVec.ofNat 32 (i 0).val) 0#32) : BitVec 32) 0#32 = 1#1
theorem first_iff : ∀ i : grid0.Coords, first i ↔ (i 0).val = 0 := by decide +kernel
/-- and it issues again at every point but the last. -/
theorem cond2_iff : ∀ i : grid0.Coords, k0_cond2 i = 1#1 ↔ (i 0).val < 7 := by decide +kernel
theorem cond3_iff : ∀ i : grid0.Coords, k0_cond3 i = 1#1 ↔ (i 0).val < 7 := by decide +kernel
theorem coord_lt : ∀ i : grid0.Coords, (i 0).val < 8 := by decide +kernel

theorem oWA_inb (i : grid0.Coords) (j : Fin 25) (a : Fin 2) : oWA i j a + S320x256.size a ≤ S8000x4096.size a := by
  have := coord_lt i; rw [oWA_eq]; exact osrc_inb (by omega) j a
theorem oWB_inb (i : grid0.Coords) (j : Fin 25) (a : Fin 2) : oWB i j a + S320x256.size a ≤ S8000x4096.size a := by
  have := coord_lt i; rw [oWB_eq]; exact osrc_inb (by omega) j a
theorem oIA_inb {i : grid0.Coords} (h : k0_cond2 i = 1#1) (j : Fin 25) (a : Fin 2) : oIA i j a + S320x256.size a ≤ S8000x4096.size a := by
  have := (cond2_iff i).mp h; rw [oIA_eq]; exact osrc_inb (by omega) j a
theorem oIB_inb {i : grid0.Coords} (h : k0_cond3 i = 1#1) (j : Fin 25) (a : Fin 2) : oIB i j a + S320x256.size a ≤ S8000x4096.size a := by
  have := (cond3_iff i).mp h; rw [oIB_eq]; exact osrc_inb (by omega) j a

theorem cell_inb : ∀ (j : Fin 25) (a : Fin 1), (![j.val] : Fin 1 → ℕ) a + S1.size a ≤ S25.size a := by decide
/-- Copy `j`'s semaphore of an array of twenty-five. -/
abbrev cell (arg : DmaSems sig S25) (j : Fin 25) : DmaSem sig :=
  ((arg.slice (Rect.unit (s := S25) ![j.val] S1.size (cell_inb j))).squeeze S_ squeezes_S1_S_).sem

/-- The copies' sources. -/
abbrev wsrcA (i : grid0.Coords) (arg1 : Memref sig .tc .hbm S8000x4096 .f32) : Fin 25 → Memref sig .tc .hbm S320x256 .f32 :=
  blk arg1 (oWA i) (oWA_inb i)
abbrev wsrcB (i : grid0.Coords) (arg1 : Memref sig .tc .hbm S8000x4096 .f32) : Fin 25 → Memref sig .tc .hbm S320x256 .f32 :=
  blk arg1 (oWB i) (oWB_inb i)
abbrev isrcA (i : grid0.Coords) (h : k0_cond2 i = 1#1) (arg1 : Memref sig .tc .hbm S8000x4096 .f32) : Fin 25 → Memref sig .tc .hbm S320x256 .f32 :=
  blk arg1 (oIA i) (oIA_inb h)
abbrev isrcB (i : grid0.Coords) (h : k0_cond3 i = 1#1) (arg1 : Memref sig .tc .hbm S8000x4096 .f32) : Fin 25 → Memref sig .tc .hbm S320x256 .f32 :=
  blk arg1 (oIB i) (oIB_inb h)
abbrev osrc0 (arg1 : Memref sig .tc .hbm S8000x4096 .f32) : Fin 25 → Memref sig .tc .hbm S320x256 .f32 :=
  blk arg1 (osrc 0) (osrc_inb (by decide))
abbrev osrc1 (arg1 : Memref sig .tc .hbm S8000x4096 .f32) : Fin 25 → Memref sig .tc .hbm S320x256 .f32 :=
  blk arg1 (osrc 1) (osrc_inb (by decide))

/-- The copies of a block, in order. -/
abbrev all25 : List (Fin 25) := [0, 1, 2, 3, 4, 5, 6, 7, 8, 9, 10, 11, 12, 13, 14, 15, 16, 17, 18, 19, 20, 21, 22, 23, 24]

/-! ## The parts -/

section Parts

variable (i : grid0.Coords)
variable (arg1 : Memref sig .tc .hbm S8000x4096 .f32) (harg1 : arg1.IsWhole)
variable (arg2 : Memref sig .tc .vmem S512x1024 .f32) (harg2 : arg2.IsWhole)
variable (arg3 : Memref sig .tc .vmem S64x8000 .f32) (harg3 : arg3.IsWhole)
variable (arg4 : Memref sig .tc .vmem S64 .f32) (harg4 : arg4.IsWhole)
variable (arg5 : Memref sig .tc .vmem S64x1024 .f32) (harg5 : arg5.IsWhole)
variable (arg6 : Memref sig .tc .vmem S64 .f32) (harg6 : arg6.IsWhole)
variable (arg7 : Memref sig .tc .vmem S4096x64 .f32) (harg7 : arg7.IsWhole)
variable (arg8 : Memref sig .tc .vmem S64 .f32) (harg8 : arg8.IsWhole)
variable (arg9 : Memref sig .tc .vmem S1x64 .f32) (harg9 : arg9.IsWhole)
variable (arg10 : Memref sig .tc .vmem S1x1 .f32) (harg10 : arg10.IsWhole)
variable (arg11 : Memref sig .tc .vmem S64x4096 .f32) (harg11 : arg11.IsWhole)
variable (arg12 : Memref sig .tc .vmem S1x512 .f32) (harg12 : arg12.IsWhole)
variable (arg13 : Memref sig .tc .vmem S8000x256 .f32) (harg13 : arg13.IsWhole)
variable (arg14 : Memref sig .tc .vmem S8000x256 .f32) (harg14 : arg14.IsWhole)
variable (arg15 arg16 : DmaSems sig S25)

/-- The start: at the first point the copies of the first two column blocks are issued. -/
def start : Prog (TpuEff nD τ sig (Elt F) Λ₀ .tc) PUnit :=
  if first i then
    issues .tc (osrc0 arg1) (bdst arg13) (cell arg15) all25 >>= fun _ =>
      issues .tc (osrc1 arg1) (bdst arg14) (cell arg16) all25
  else pure ⟨⟩

/-- The copies issued again into the first buffer, if there is a point after this one, -/
def againA : Prog (TpuEff nD τ sig (Elt F) Λ₀ .tc) PUnit :=
  if h : k0_cond2 i = 1#1 then issues .tc (isrcA i h arg1) (bdst arg13) (cell arg15) all25 else pure ⟨⟩
/-- and into the second. -/
def againB : Prog (TpuEff nD τ sig (Elt F) Λ₀ .tc) PUnit :=
  if h : k0_cond3 i = 1#1 then issues .tc (isrcB i h arg1) (bdst arg14) (cell arg16) all25 else pure ⟨⟩

set_option maxRecDepth 65536

theorem part15_eq : k0_part15 (F := F) i arg1 harg1 arg2 harg2 arg3 harg3 arg4 harg4 arg5 harg5 arg6 harg6 arg7 harg7 arg8 harg8 arg9 harg9 arg10 harg10 arg11 harg11 arg12 harg12 arg13 harg13 arg14 harg14 arg15 arg16
    = start i arg1 arg13 arg14 arg15 arg16 >>= fun _ => waits .tc (wsrcA i arg1) (bdst arg13) (cell arg15) [0, 1, 2, 3, 4] >>= fun _ =>
        pure ⟨BitVec.ofNat 32 (i 0).val, Scalar.muli 2#32 (BitVec.ofNat 32 (i 0).val)⟩ := by
  rw [k0_part15_eq_skeleton]; unfold k0_part15_skel start
  by_cases h : first i
  · rw [dif_pos h, if_pos h]; rfl
  · rw [dif_neg h, if_neg h]; rfl

theorem part16_eq : k0_part16 (F := F) i arg1 harg1 arg2 harg2 arg3 harg3 arg4 harg4 arg5 harg5 arg6 harg6 arg7 harg7 arg8 harg8 arg9 harg9 arg10 harg10 arg11 harg11 arg12 harg12 arg13 harg13 arg14 harg14 arg15 arg16
    = waits .tc (wsrcA i arg1) (bdst arg13) (cell arg15) [5, 6, 7, 8, 9, 10, 11] := rfl

theorem part17_eq : k0_part17 (F := F) i arg1 harg1 arg2 harg2 arg3 harg3 arg4 harg4 arg5 harg5 arg6 harg6 arg7 harg7 arg8 harg8 arg9 harg9 arg10 harg10 arg11 harg11 arg12 harg12 arg13 harg13 arg14 harg14 arg15 arg16
    = waits .tc (wsrcA i arg1) (bdst arg13) (cell arg15) [12, 13, 14, 15, 16, 17] := rfl

theorem part21_eq : k0_part21 (F := F) i arg1 harg1 arg2 harg2 arg3 harg3 arg4 harg4 arg5 harg5 arg6 harg6 arg7 harg7 arg8 harg8 arg9 harg9 arg10 harg10 arg11 harg11 arg12 harg12 arg13 harg13 arg14 harg14 arg15 arg16
    = waits .tc (wsrcB i arg1) (bdst arg14) (cell arg16) [4, 5, 6, 7, 8, 9] := rfl

theorem part22_eq : k0_part22 (F := F) i arg1 harg1 arg2 harg2 arg3 harg3 arg4 harg4 arg5 harg5 arg6 harg6 arg7 harg7 arg8 harg8 arg9 harg9 arg10 harg10 arg11 harg11 arg12 harg12 arg13 harg13 arg14 harg14 arg15 arg16
    = waits .tc (wsrcB i arg1) (bdst arg14) (cell arg16) [10, 11, 12, 13, 14, 15, 16] := rfl

theorem part23_eq : k0_part23 (F := F) i arg1 harg1 arg2 harg2 arg3 harg3 arg4 harg4 arg5 harg5 arg6 harg6 arg7 harg7 arg8 harg8 arg9 harg9 arg10 harg10 arg11 harg11 arg12 harg12 arg13 harg13 arg14 harg14 arg15 arg16
    = waits .tc (wsrcB i arg1) (bdst arg14) (cell arg16) [17, 18, 19, 20, 21, 22, 23] := rfl

theorem part18_eq : k0_part18 (F := F) i arg1 harg1 arg2 harg2 arg3 harg3 arg4 harg4 arg5 harg5 arg6 harg6 arg7 harg7 arg8 harg8 arg9 harg9 arg10 harg10 arg11 harg11 arg12 harg12 arg13 harg13 arg14 harg14 arg15 arg16
    = waits .tc (wsrcA i arg1) (bdst arg13) (cell arg15) [18, 19, 20, 21, 22, 23, 24] >>= fun _ =>
        Prog.lift (.load arg3 (Rect.unit (s := S64x8000) ![0, 0] S64x8000.size inb_S64x8000_S64x8000_0_0).toLoadRect (View.loadsAt_vmem h_S64x8000)) >>= fun v105 => pure (k0_pay2 v105) := rfl

end Parts

/-! ## The whole body -/

/-- The first half's computation, from the array's product operand and the columns: the loads of the other operands and the
    store of columns 0 to 255. -/
def midA (arg2 : Memref sig .tc .vmem S512x1024 .f32) (arg4 : Memref sig .tc .vmem S64 .f32) (arg5 : Memref sig .tc .vmem S64x1024 .f32) (arg6 : Memref sig .tc .vmem S64 .f32) (arg7 : Memref sig .tc .vmem S4096x64 .f32) (arg8 : Memref sig .tc .vmem S64 .f32) (arg9 : Memref sig .tc .vmem S1x64 .f32) (arg10 : Memref sig .tc .vmem S1x1 .f32) (arg11 : Memref sig .tc .vmem S64x4096 .f32) (arg12 : Memref sig .tc .vmem S1x512 .f32) (v105 : Vec F S64x8000 .f32) (v107 : Vec F S8000x256 .f32) : Prog (TpuEff nD τ sig (Elt F) Λ₀ .tc) PUnit := do
  let v113 ← Prog.lift (.load arg4 (Rect.unit (s := S64) ![0] S64.size inb_S64_S64_0).toLoadRect (View.loadsAt_vmem h_S64))
  let v119 ← Prog.lift (.load arg5 (Rect.unit (s := S64x1024) ![0, 0] S64x1024.size inb_S64x1024_S64x1024_0_0).toLoadRect (View.loadsAt_vmem h_S64x1024))
  let v121 ← Prog.lift (.load arg2 (Rect.unit (s := S512x1024) ![0, 0] S256x1024.size inb_S512x1024_S256x1024_0_0).toLoadRect (View.loadsAt_vmem h_S256x1024))
  let v123 ← Prog.lift (.load arg6 (Rect.unit (s := S64) ![0] S64.size inb_S64_S64_0).toLoadRect (View.loadsAt_vmem h_S64))
  let v129 ← Prog.lift (.load arg7 (Rect.unit (s := S4096x64) ![0, 0] S4096x64.size inb_S4096x64_S4096x64_0_0).toLoadRect (View.loadsAt_vmem h_S4096x64))
  let v134 ← Prog.lift (.load arg11 (Rect.unit (s := S64x4096) ![0, 0] S64x4096.size inb_S64x4096_S64x4096_0_0).toLoadRect (View.loadsAt_vmem h_S64x4096))
  let v136 ← Prog.lift (.load arg8 (Rect.unit (s := S64) ![0] S64.size inb_S64_S64_0).toLoadRect (View.loadsAt_vmem h_S64))
  let v142 ← Prog.lift (.load arg9 (Rect.unit (s := S1x64) ![0, 0] S1x64.size inb_S1x64_S1x64_0_0).toLoadRect (View.loadsAt_vmem h_S1x64))
  let v145 ← Prog.lift (.load arg10 (Rect.unit (s := S1x1) ![0, 0] S1x1.size inb_S1x1_S1x1_0_0).toLoadRect (View.loadsAt_vmem h_S1x1))
  let v149 ← Prog.lift (.load arg12 (Rect.unit (s := S1x512) ![0, 0] S1x256.size inb_S1x512_S1x256_0_0).toLoadRect (View.loadsAt_vmem h_S1x256))
  Prog.lift (.store arg12 (Rect.unit (s := S1x512) ![0, 0] S1x256.size inb_S1x512_S1x256_0_0) (k0_pay4 (k0_pay3 (k0_pay2 v105) v107 v113 v119 v121 v123 v129 v134 v136) v142 v145) Finset.univ (View.stores_vmem_bits_univ h_S1x256 rfl) (.inl rfl))

/-- The second half's: the store of columns 256 to 511. -/
def midB (arg2 : Memref sig .tc .vmem S512x1024 .f32) (arg4 : Memref sig .tc .vmem S64 .f32) (arg5 : Memref sig .tc .vmem S64x1024 .f32) (arg6 : Memref sig .tc .vmem S64 .f32) (arg7 : Memref sig .tc .vmem S4096x64 .f32) (arg8 : Memref sig .tc .vmem S64 .f32) (arg9 : Memref sig .tc .vmem S1x64 .f32) (arg10 : Memref sig .tc .vmem S1x1 .f32) (arg11 : Memref sig .tc .vmem S64x4096 .f32) (arg12 : Memref sig .tc .vmem S1x512 .f32) (v253 : Vec F S64x8000 .f32) (v255 : Vec F S8000x256 .f32) : Prog (TpuEff nD τ sig (Elt F) Λ₀ .tc) PUnit := do
  let v261 ← Prog.lift (.load arg4 (Rect.unit (s := S64) ![0] S64.size inb_S64_S64_0).toLoadRect (View.loadsAt_vmem h_S64))
  let v267 ← Prog.lift (.load arg5 (Rect.unit (s := S64x1024) ![0, 0] S64x1024.size inb_S64x1024_S64x1024_0_0).toLoadRect (View.loadsAt_vmem h_S64x1024))
  let v269 ← Prog.lift (.load arg2 (Rect.unit (s := S512x1024) ![256, 0] S256x1024.size inb_S512x1024_S256x1024_256_0).toLoadRect (View.loadsAt_vmem h_S256x1024))
  let v271 ← Prog.lift (.load arg6 (Rect.unit (s := S64) ![0] S64.size inb_S64_S64_0).toLoadRect (View.loadsAt_vmem h_S64))
  let v277 ← Prog.lift (.load arg7 (Rect.unit (s := S4096x64) ![0, 0] S4096x64.size inb_S4096x64_S4096x64_0_0).toLoadRect (View.loadsAt_vmem h_S4096x64))
  let v282 ← Prog.lift (.load arg11 (Rect.unit (s := S64x4096) ![0, 0] S64x4096.size inb_S64x4096_S64x4096_0_0).toLoadRect (View.loadsAt_vmem h_S64x4096))
  let v284 ← Prog.lift (.load arg8 (Rect.unit (s := S64) ![0] S64.size inb_S64_S64_0).toLoadRect (View.loadsAt_vmem h_S64))
  let v290 ← Prog.lift (.load arg9 (Rect.unit (s := S1x64) ![0, 0] S1x64.size inb_S1x64_S1x64_0_0).toLoadRect (View.loadsAt_vmem h_S1x64))
  let v293 ← Prog.lift (.load arg10 (Rect.unit (s := S1x1) ![0, 0] S1x1.size inb_S1x1_S1x1_0_0).toLoadRect (View.loadsAt_vmem h_S1x1))
  let v297 ← Prog.lift (.load arg12 (Rect.unit (s := S1x512) ![0, 256] S1x256.size inb_S1x512_S1x256_0_256).toLoadRect (View.loadsAt_vmem h_S1x256))
  Prog.lift (.store arg12 (Rect.unit (s := S1x512) ![0, 256] S1x256.size inb_S1x512_S1x256_0_256) (k0_pay1 (k0_pay5 v253 v255 v261 v267 v269 v271 v277) v282 v284 v290 v293) Finset.univ (View.stores_vmem_bits_univ h_S1x256 rfl) (.inl rfl))

section Whole

variable (i : grid0.Coords)
variable (arg1 : Memref sig .tc .hbm S8000x4096 .f32) (harg1 : arg1.IsWhole)
variable (arg2 : Memref sig .tc .vmem S512x1024 .f32) (harg2 : arg2.IsWhole)
variable (arg3 : Memref sig .tc .vmem S64x8000 .f32) (harg3 : arg3.IsWhole)
variable (arg4 : Memref sig .tc .vmem S64 .f32) (harg4 : arg4.IsWhole)
variable (arg5 : Memref sig .tc .vmem S64x1024 .f32) (harg5 : arg5.IsWhole)
variable (arg6 : Memref sig .tc .vmem S64 .f32) (harg6 : arg6.IsWhole)
variable (arg7 : Memref sig .tc .vmem S4096x64 .f32) (harg7 : arg7.IsWhole)
variable (arg8 : Memref sig .tc .vmem S64 .f32) (harg8 : arg8.IsWhole)
variable (arg9 : Memref sig .tc .vmem S1x64 .f32) (harg9 : arg9.IsWhole)
variable (arg10 : Memref sig .tc .vmem S1x1 .f32) (harg10 : arg10.IsWhole)
variable (arg11 : Memref sig .tc .vmem S64x4096 .f32) (harg11 : arg11.IsWhole)
variable (arg12 : Memref sig .tc .vmem S1x512 .f32) (harg12 : arg12.IsWhole)
variable (arg13 : Memref sig .tc .vmem S8000x256 .f32) (harg13 : arg13.IsWhole)
variable (arg14 : Memref sig .tc .vmem S8000x256 .f32) (harg14 : arg14.IsWhole)
variable (arg15 arg16 : DmaSems sig S25)

set_option maxRecDepth 65536

theorem part19_eq (v3 : BitVec 32) (v106 : FVec F S64x8000 .f32) : k0_part19 (F := F) i arg1 harg1 arg2 harg2 arg3 harg3 arg4 harg4 arg5 harg5 arg6 harg6 arg7 harg7 arg8 harg8 arg9 harg9 arg10 harg10 arg11 harg11 arg12 harg12 arg13 harg13 arg14 harg14 arg15 arg16 v3 v106
    = (Prog.lift (.load arg13 (Rect.unit (s := S8000x256) ![0, 0] S8000x256.size inb_S8000x256_S8000x256_0_0).toLoadRect (View.loadsAt_vmem h_S8000x256)) >>= fun v107 => againA i arg1 arg13 arg15 >>= fun _ => (do
        let v113 ← Prog.lift (.load arg4 (Rect.unit (s := S64) ![0] S64.size inb_S64_S64_0).toLoadRect (View.loadsAt_vmem h_S64))
        let v119 ← Prog.lift (.load arg5 (Rect.unit (s := S64x1024) ![0, 0] S64x1024.size inb_S64x1024_S64x1024_0_0).toLoadRect (View.loadsAt_vmem h_S64x1024))
        let v121 ← Prog.lift (.load arg2 (Rect.unit (s := S512x1024) ![0, 0] S256x1024.size inb_S512x1024_S256x1024_0_0).toLoadRect (View.loadsAt_vmem h_S256x1024))
        let v123 ← Prog.lift (.load arg6 (Rect.unit (s := S64) ![0] S64.size inb_S64_S64_0).toLoadRect (View.loadsAt_vmem h_S64))
        let v129 ← Prog.lift (.load arg7 (Rect.unit (s := S4096x64) ![0, 0] S4096x64.size inb_S4096x64_S4096x64_0_0).toLoadRect (View.loadsAt_vmem h_S4096x64))
        let v134 ← Prog.lift (.load arg11 (Rect.unit (s := S64x4096) ![0, 0] S64x4096.size inb_S64x4096_S64x4096_0_0).toLoadRect (View.loadsAt_vmem h_S64x4096))
        let v136 ← Prog.lift (.load arg8 (Rect.unit (s := S64) ![0] S64.size inb_S64_S64_0).toLoadRect (View.loadsAt_vmem h_S64))
        pure (k0_pay3 v106 v107 v113 v119 v121 v123 v129 v134 v136))) := by
  rw [k0_part19_eq_skeleton]; unfold k0_part19_skel againA
  by_cases h : k0_cond2 i = 1#1
  · simp only [dif_pos h]; rfl
  · simp only [dif_neg h]; rfl

theorem part20_eq (arg0 : BitVec 32) (v141 : FVec F S64x256 .f32) : k0_part20 (F := F) i arg1 harg1 arg2 harg2 arg3 harg3 arg4 harg4 arg5 harg5 arg6 harg6 arg7 harg7 arg8 harg8 arg9 harg9 arg10 harg10 arg11 harg11 arg12 harg12 arg13 harg13 arg14 harg14 arg15 arg16 arg0 v141
    = (do
        let v142 ← Prog.lift (.load arg9 (Rect.unit (s := S1x64) ![0, 0] S1x64.size inb_S1x64_S1x64_0_0).toLoadRect (View.loadsAt_vmem h_S1x64))
        let v145 ← Prog.lift (.load arg10 (Rect.unit (s := S1x1) ![0, 0] S1x1.size inb_S1x1_S1x1_0_0).toLoadRect (View.loadsAt_vmem h_S1x1))
        let v149 ← Prog.lift (.load arg12 (Rect.unit (s := S1x512) ![0, 0] S1x256.size inb_S1x512_S1x256_0_0).toLoadRect (View.loadsAt_vmem h_S1x256))
        Prog.lift (.store arg12 (Rect.unit (s := S1x512) ![0, 0] S1x256.size inb_S1x512_S1x256_0_0) (k0_pay4 v141 v142 v145) Finset.univ (View.stores_vmem_bits_univ h_S1x256 rfl) (.inl rfl))
        waits .tc (wsrcB i arg1) (bdst arg14) (cell arg16) [0, 1, 2, 3]
        pure (Scalar.addi (Scalar.muli 2#32 arg0) 1#32)) := rfl

theorem part24_eq (v151 : BitVec 32) : k0_part24 (F := F) i arg1 harg1 arg2 harg2 arg3 harg3 arg4 harg4 arg5 harg5 arg6 harg6 arg7 harg7 arg8 harg8 arg9 harg9 arg10 harg10 arg11 harg11 arg12 harg12 arg13 harg13 arg14 harg14 arg15 arg16 v151
    = (waits .tc (wsrcB i arg1) (bdst arg14) (cell arg16) [24] >>= fun _ => Prog.lift (.load arg3 (Rect.unit (s := S64x8000) ![0, 0] S64x8000.size inb_S64x8000_S64x8000_0_0).toLoadRect (View.loadsAt_vmem h_S64x8000)) >>= fun v253 => Prog.lift (.load arg14 (Rect.unit (s := S8000x256) ![0, 0] S8000x256.size inb_S8000x256_S8000x256_0_0).toLoadRect (View.loadsAt_vmem h_S8000x256)) >>= fun v255 => againB i arg1 arg14 arg16 >>= fun _ => (do
        let v261 ← Prog.lift (.load arg4 (Rect.unit (s := S64) ![0] S64.size inb_S64_S64_0).toLoadRect (View.loadsAt_vmem h_S64))
        let v267 ← Prog.lift (.load arg5 (Rect.unit (s := S64x1024) ![0, 0] S64x1024.size inb_S64x1024_S64x1024_0_0).toLoadRect (View.loadsAt_vmem h_S64x1024))
        let v269 ← Prog.lift (.load arg2 (Rect.unit (s := S512x1024) ![256, 0] S256x1024.size inb_S512x1024_S256x1024_256_0).toLoadRect (View.loadsAt_vmem h_S256x1024))
        let v271 ← Prog.lift (.load arg6 (Rect.unit (s := S64) ![0] S64.size inb_S64_S64_0).toLoadRect (View.loadsAt_vmem h_S64))
        let v277 ← Prog.lift (.load arg7 (Rect.unit (s := S4096x64) ![0, 0] S4096x64.size inb_S4096x64_S4096x64_0_0).toLoadRect (View.loadsAt_vmem h_S4096x64))
        let v282 ← Prog.lift (.load arg11 (Rect.unit (s := S64x4096) ![0, 0] S64x4096.size inb_S64x4096_S64x4096_0_0).toLoadRect (View.loadsAt_vmem h_S64x4096))
        pure ⟨k0_pay5 v253 v255 v261 v267 v269 v271 v277, v282⟩)) := by
  rw [k0_part24_eq_skeleton]; unfold k0_part24_skel againB
  by_cases h : k0_cond3 i = 1#1
  · simp only [dif_pos h]; rfl
  · simp only [dif_neg h]; rfl

/-- The kernel function, in the order of its text: the copies of the point's two column blocks are waited for, each half is
    computed, and each buffer, once read, takes the copies of the next point. -/
theorem body_eq : cc0__fused_kernel (F := F) i arg1 harg1 arg2 harg2 arg3 harg3 arg4 harg4 arg5 harg5 arg6 harg6 arg7 harg7 arg8 harg8 arg9 harg9 arg10 harg10 arg11 harg11 arg12 harg12 arg13 harg13 arg14 harg14 arg15 arg16
    = (start i arg1 arg13 arg14 arg15 arg16 >>= fun _ => waits .tc (wsrcA i arg1) (bdst arg13) (cell arg15) all25 >>= fun _ =>
        Prog.lift (.load arg3 (Rect.unit (s := S64x8000) ![0, 0] S64x8000.size inb_S64x8000_S64x8000_0_0).toLoadRect (View.loadsAt_vmem h_S64x8000)) >>= fun v105 => Prog.lift (.load arg13 (Rect.unit (s := S8000x256) ![0, 0] S8000x256.size inb_S8000x256_S8000x256_0_0).toLoadRect (View.loadsAt_vmem h_S8000x256)) >>= fun v107 => againA i arg1 arg13 arg15 >>= fun _ =>
        midA arg2 arg4 arg5 arg6 arg7 arg8 arg9 arg10 arg11 arg12 v105 v107 >>= fun _ =>
        waits .tc (wsrcB i arg1) (bdst arg14) (cell arg16) all25 >>= fun _ =>
        Prog.lift (.load arg3 (Rect.unit (s := S64x8000) ![0, 0] S64x8000.size inb_S64x8000_S64x8000_0_0).toLoadRect (View.loadsAt_vmem h_S64x8000)) >>= fun v253 => Prog.lift (.load arg14 (Rect.unit (s := S8000x256) ![0, 0] S8000x256.size inb_S8000x256_S8000x256_0_0).toLoadRect (View.loadsAt_vmem h_S8000x256)) >>= fun v255 => againB i arg1 arg14 arg16 >>= fun _ =>
        midB arg2 arg4 arg5 arg6 arg7 arg8 arg9 arg10 arg11 arg12 v253 v255) := by
  rw [cc0__fused_kernel_eq_skeleton]; unfold cc0__fused_kernel_skel midA midB
  rw [show all25 = [0, 1, 2, 3, 4] ++ ([5, 6, 7, 8, 9, 10, 11] ++ ([12, 13, 14, 15, 16, 17] ++ [18, 19, 20, 21, 22, 23, 24])) from rfl]
  rw [show waits .tc (wsrcB i arg1) (bdst arg14) (cell arg16) ([0, 1, 2, 3, 4] ++ ([5, 6, 7, 8, 9, 10, 11] ++ ([12, 13, 14, 15, 16, 17] ++ [18, 19, 20, 21, 22, 23, 24])))
    = waits (Val := Elt F) (Λ := Λ₀) (nD := nD) .tc (wsrcB i arg1) (bdst arg14) (cell arg16) ([0, 1, 2, 3] ++ ([4, 5, 6, 7, 8, 9] ++ ([10, 11, 12, 13, 14, 15, 16] ++ ([17, 18, 19, 20, 21, 22, 23] ++ [24])))) from rfl]
  simp only [part15_eq, part16_eq, part17_eq, part18_eq, part19_eq, part20_eq, part21_eq, part22_eq, part23_eq, part24_eq,
    waits_append, bind_assoc, pure_bind]
  rfl

end Whole

end Cert.KernelIdeal.Hand

end

end
-- ==== Proof.KernelIdealBody.lean ====
/-
  One grid point of `KernelIdeal`'s kernel. The two scratch buffers are rings of depth one, each filled by twenty-five copies:
  between points (but before the first and after the last) the copies of the two column blocks the next point computes
  from are in flight. The point waits for them, computes its two halves of the result row and, unless it is the last,
  issues the copies of the two blocks after. What a buffer holds when it is full is named by the array the copies read,
  so the two halves stored are a function of the point and the operands.
-/
module

public import proofs.«01_k».proof.Proof.Gen.KernelIdeal.Frame
public import proofs.«01_k».proof.Proof.KernelIdealCopies

@[expose] public section

noncomputable section

namespace Cert.KernelIdeal.Hand

open Cert.KernelIdeal Cert.KernelIdeal.Gen
open Cert.Chunks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ (Pipeline.UD sig nD τ) ℕ

/-! ## The two rings -/

/-- The array the copies read, and the two buffers. -/
abbrev hbm : Memref sig .tc .hbm S8000x4096 .f32 := Memref.whole main_v0
abbrev bufA : Memref sig .tc .vmem S8000x256 .f32 := Memref.whole cc0_scratch0
abbrev bufB : Memref sig .tc .vmem S8000x256 .f32 := Memref.whole cc0_scratch1
abbrev smA : Fin 25 → DmaSem sig := cell cc0_scratch2
abbrev smB : Fin 25 → DmaSem sig := cell cc0_scratch3

/-- Columns `256 b` to `256 b + 255` of an array of 4096 columns. -/
def cols (X : Vec F S8000x4096 .f32) (b : ℕ) : Vec F S8000x256 .f32 := fun y =>
  X (fun a => match a with
    | ⟨0, _⟩ => ⟨(y 0).val, (y 0).isLt⟩
    | ⟨1, _⟩ => ⟨(256 * b + (y 1).val) % 4096, Nat.mod_lt _ (by decide)⟩)

/-- Each copy's share of the array: twenty-five shares for the first buffer's copies, twenty-five of what is left for the
    second's. -/
abbrev qA (j : Fin 25) : PosShare TreeShare := shareTok fullShare 25 j
abbrev qB (j : Fin 25) : PosShare TreeShare := shareTok (shareDrop fullShare 25) 25 j

section Ring

variable (c : Dev nD) (buf : Memref sig .tc .vmem S8000x256 .f32) (sm : Fin 25 → DmaSem sig) (q : Fin 25 → PosShare TreeShare)
  (P : Vec F S8000x4096 .f32) (g : Vec F S8000x256 .f32 → buf.view.ty.Contents (Elt F))

/-- A buffer at rest: it holds `X`, its semaphores are at zero, the shares of the array are at hand. -/
def Rest (X : Vec F S8000x256 .f32) : sProp 𝕄 :=
  iprop(owns (c : Thread nD τ) buf fullShare X
    ∗ bigSep Finset.univ (fun j => semVal ((c : Thread nD τ), SemLoc.dma (sm j)) 0)
    ∗ bigSep Finset.univ (fun j => hbm.view.loc (c : Thread nD τ) ↦{q j} P))

/-- A buffer filling: the copies of column block `b` are in flight into it. -/
def Air (b : ℕ) : sProp 𝕄 :=
  bigSep Finset.univ (Flying (countersEmb (U := Pipeline.UD sig nD τ)) () (c : Thread nD τ) buf hbm odst odst_inb sm q P (g (cols P b)))

/-- The state of a ring between points: at rest before the first and after the last, else filling with its block of the point
    to come: `2 t` for the first buffer, `2 t + 1` for the second. -/
def Ring (o t : ℕ) : sProp 𝕄 :=
  if t = 0 ∨ 8 ≤ t then iprop(∃ X, Rest c buf sm q P X) else Air c buf sm q P g (2 * t + o)

theorem odst_disjoint (j j' : Fin 25) (h : j ≠ j') :
    Disjoint (Rect.unit (s := S8000x256) (odst j) S320x256.size (odst_inb j)).set (Rect.unit (s := S8000x256) (odst j') S320x256.size (odst_inb j')).set :=
  Ring.lead_disjoint (s := S8000x256) (0 : Fin 2) 320 odst S320x256.size odst_inb (fun _ => rfl) rfl j j' h

theorem odst_cover :
    Finset.univ.biUnion (fun j : Fin 25 => (Rect.unit (s := S8000x256) (odst j) S320x256.size (odst_inb j)).set) = Finset.univ :=
  Ring.lead_cover (s := S8000x256) (0 : Fin 2) 320 odst S320x256.size odst_inb (fun _ => rfl)
    (fun b a ha => by match a with | 0 => exact absurd rfl ha | 1 => rfl) rfl
    (fun a ha => by match a with | 0 => exact absurd rfl ha | 1 => rfl) rfl

/-- What copy `j` of block `b` reads is its rows of the block. -/
theorem copy_reads (hg : ∀ X, buf.view.read (Elt F) (g X) = X) {b : ℕ} (hb : b < 16) (os : Fin 25 → Fin 2 → ℕ)
    (hos : ∀ j, os j = osrc b j) (hH : ∀ j a, os j a + S320x256.size a ≤ S8000x4096.size a) (j : Fin 25) :
    (bdst buf j).view.read (Elt F) (g (cols P b)) = (blk hbm os hH j).view.read (Elt F) P := by
  funext y
  have e : (bdst buf j).view.read (Elt F) (g (cols P b)) y
      = buf.view.read (Elt F) (g (cols P b)) ((Rect.unit (s := S8000x256) (odst j) S320x256.size (odst_inb j)).emb y) := rfl
  rw [e, hg]
  have e' : (blk hbm os hH j).view.read (Elt F) P y = P ((Rect.unit (s := S8000x4096) (os j) S320x256.size (hH j)).emb y) := rfl
  rw [e']
  unfold cols
  congr 1
  funext a
  have h1 : (y 1).val < 256 := (y 1).isLt
  have ho := hos j
  match a with
  | 0 =>
    apply Fin.ext
    show 320 * j.val + 1 * (y 0).val = os j 0 + 1 * (y 0).val
    rw [ho]; rfl
  | 1 =>
    apply Fin.ext
    show (256 * b + (0 + 1 * (y 1).val)) % 4096 = os j 1 + 1 * (y 1).val
    rw [ho]
    show _ = 256 * b + 1 * (y 1).val
    omega

theorem all25_univ : (all25.toFinset : Finset (Fin 25)) = Finset.univ := by decide
theorem all25_nodup : all25.Nodup := by decide

/-- Issuing the copies of block `b` sends a buffer at rest filling. -/
theorem wp_fill (hg : ∀ X, buf.view.read (Elt F) (g X) = X) {b : ℕ} (hb : b < 16) (os : Fin 25 → Fin 2 → ℕ)
    (hos : ∀ j, os j = osrc b j) (hH : ∀ j a, os j a + S320x256.size a ≤ S8000x4096.size a) (X : Vec F S8000x256 .f32)
    (Q : PUnit → sProp 𝕄) :
    iprop(Rest c buf sm q P X ∗ (Air c buf sm q P g b -∗ Q ⟨⟩))
      ⊢ wp frame (wpE (defs₀ (F := F)) Variants.none (c : Thread nD τ) none) Set.univ (issues .tc (blk hbm os hH) (bdst buf) sm all25) Q := by
  unfold Rest Air
  iintro ⟨H, Hk⟩
  iapply (wp_issues (countersEmb (U := Pipeline.UD sig nD τ)) () (c : Thread nD τ) buf hbm odst odst_inb sm q P (g (cols P b)) Variants.none none os hH
    (by decide) (copy_reads buf P g hg hb os hos hH) all25 all25_nodup Q)
  rw [all25_univ]
  isplitl [H]
  · iapply (idles_of (c : Thread nD τ) buf hbm odst odst_inb sm q P odst_disjoint odst_cover X); iexact H
  iexact Hk

/-- Waiting for the copies of block `b` fills the buffer with it. -/
theorem wp_filled (hg : ∀ X, buf.view.read (Elt F) (g X) = X) {b : ℕ} (os : Fin 25 → Fin 2 → ℕ)
    (hH : ∀ j a, os j a + S320x256.size a ≤ S8000x4096.size a) (Q : PUnit → sProp 𝕄) :
    iprop(Air c buf sm q P g b ∗ iprop(∃ W, owes (c : Thread nD τ) 0 W) ∗ (Rest c buf sm q P (cols P b) -∗ iprop(∃ W, owes (c : Thread nD τ) 0 W) -∗ Q ⟨⟩))
      ⊢ wp frame (wpE (defs₀ (F := F)) Variants.none (c : Thread nD τ) none) Set.univ (waits .tc (blk hbm os hH) (bdst buf) sm all25) Q := by
  unfold Air
  iintro ⟨H, HW, Hk⟩
  iapply (wp_waits (countersEmb (U := Pipeline.UD sig nD τ)) () (c : Thread nD τ) buf hbm odst odst_inb sm q P (g (cols P b)) Variants.none none os hH
    all25 all25_nodup Q)
  rw [all25_univ]
  isplitl [H]; · iexact H
  isplitl [HW]; · iexact HW
  iintro H
  iapply Hk
  have h := fulls_join (Ix := Unit) (Name := ℕ) (U := Pipeline.UD sig nD τ) (Lvl := ℕ) (c : Thread nD τ) buf hbm odst odst_inb sm q P (g (cols P b)) odst_disjoint odst_cover
  rw [hg] at h
  unfold Rest
  iapply h; iexact H

end Ring

/-! ## The point's three transfers -/

section Point

variable (c : Dev nD) (i : grid0.Coords) (P : Vec F S8000x4096 .f32)

/-- The first buffer's ring, and the second's. -/
abbrev RingA (t : ℕ) : sProp 𝕄 := Ring c bufA smA qA P id 0 t
abbrev RingB (t : ℕ) : sProp 𝕄 := Ring c bufB smB qB P id 1 t
abbrev AirA (b : ℕ) : sProp 𝕄 := Air c bufA smA qA P id b
abbrev AirB (b : ℕ) : sProp 𝕄 := Air c bufB smB qB P id b

/-- After the start both buffers are filling with the point's own blocks, -/
theorem wp_start (Q : PUnit → sProp 𝕄) :
    iprop(RingA c P (i 0).val ∗ RingB c P (i 0).val ∗ (AirA c P (2 * (i 0).val + 0) -∗ AirB c P (2 * (i 0).val + 1) -∗ Q ⟨⟩))
      ⊢ wp frame (wpE (defs₀ (F := F)) Variants.none (c : Thread nD τ) none) Set.univ (start i hbm bufA bufB cc0_scratch2 cc0_scratch3) Q := by
  have hlt := coord_lt i
  unfold start RingA RingB Ring
  by_cases h : first i
  · have h0 := (first_iff i).mp h
    rw [if_pos h, h0, if_pos (Or.inl rfl), if_pos (Or.inl rfl)]
    iintro ⟨⟨%X, HA⟩, ⟨%Y, HB⟩, Hk⟩
    rw [wp_bind]
    iapply (wp_fill c bufA smA qA P id (fun _ => rfl) (b := 0) (by decide) (osrc 0) (fun _ => rfl) (osrc_inb (by decide)) X)
    isplitl [HA]; · iexact HA
    iintro HA
    iapply (wp_fill c bufB smB qB P id (fun _ => rfl) (b := 1) (by decide) (osrc 1) (fun _ => rfl) (osrc_inb (by decide)) Y)
    isplitl [HB]; · iexact HB
    iintro HB
    iapply Hk $$ HA HB
  · have h0 : (i 0).val ≠ 0 := fun e => h ((first_iff i).mpr e)
    rw [if_neg h, if_neg (by omega), if_neg (by omega)]
    iintro ⟨HA, HB, Hk⟩
    rw [wp_pure]
    imodintro
    iapply Hk $$ HA HB

/-- and after the first buffer is read it takes the copies of its block of the next point, if there is one, -/
theorem wp_againA (X : Vec F S8000x256 .f32) (Q : PUnit → sProp 𝕄) :
    iprop(Rest c bufA smA qA P X ∗ (RingA c P ((i 0).val + 1) -∗ Q ⟨⟩))
      ⊢ wp frame (wpE (defs₀ (F := F)) Variants.none (c : Thread nD τ) none) Set.univ (againA i hbm bufA cc0_scratch2) Q := by
  have hlt := coord_lt i
  unfold againA RingA Ring
  by_cases h : k0_cond2 i = 1#1
  · have h0 := (cond2_iff i).mp h
    rw [dif_pos h, if_neg (by omega)]
    iintro ⟨HA, Hk⟩
    iapply (wp_fill c bufA smA qA P id (fun _ => rfl) (b := 2 * ((i 0).val + 1) + 0) (by omega) (oIA i) (oIA_eq i) (oIA_inb h) X)
    isplitl [HA]; · iexact HA
    iexact Hk
  · have h0 : ¬ (i 0).val < 7 := fun e => h ((cond2_iff i).mpr e)
    rw [dif_neg h, if_pos (by omega)]
    iintro ⟨HA, Hk⟩
    rw [wp_pure]
    imodintro
    iapply Hk
    iexists X; iexact HA

/-- and so does the second. -/
theorem wp_againB (X : Vec F S8000x256 .f32) (Q : PUnit → sProp 𝕄) :
    iprop(Rest c bufB smB qB P X ∗ (RingB c P ((i 0).val + 1) -∗ Q ⟨⟩))
      ⊢ wp frame (wpE (defs₀ (F := F)) Variants.none (c : Thread nD τ) none) Set.univ (againB i hbm bufB cc0_scratch3) Q := by
  have hlt := coord_lt i
  unfold againB RingB Ring
  by_cases h : k0_cond3 i = 1#1
  · have h0 := (cond3_iff i).mp h
    rw [dif_pos h, if_neg (by omega)]
    iintro ⟨HA, Hk⟩
    iapply (wp_fill c bufB smB qB P id (fun _ => rfl) (b := 2 * ((i 0).val + 1) + 1) (by omega) (oIB i) (oIB_eq i) (oIB_inb h) X)
    isplitl [HA]; · iexact HA
    iexact Hk
  · have h0 : ¬ (i 0).val < 7 := fun e => h ((cond3_iff i).mpr e)
    rw [dif_neg h, if_pos (by omega)]
    iintro ⟨HA, Hk⟩
    rw [wp_pure]
    imodintro
    iapply Hk
    iexists X; iexact HA

end Point

/-! ## The computation between -/

section Mid

variable (c : Dev nD)
variable (arg2 : Memref sig .tc .vmem S512x1024 .f32) (harg2 : arg2.IsWhole)
variable (arg3 : Memref sig .tc .vmem S64x8000 .f32) (harg3 : arg3.IsWhole)
variable (arg4 : Memref sig .tc .vmem S64 .f32) (harg4 : arg4.IsWhole)
variable (arg5 : Memref sig .tc .vmem S64x1024 .f32) (harg5 : arg5.IsWhole)
variable (arg6 : Memref sig .tc .vmem S64 .f32) (harg6 : arg6.IsWhole)
variable (arg7 : Memref sig .tc .vmem S4096x64 .f32) (harg7 : arg7.IsWhole)
variable (arg8 : Memref sig .tc .vmem S64 .f32) (harg8 : arg8.IsWhole)
variable (arg9 : Memref sig .tc .vmem S1x64 .f32) (harg9 : arg9.IsWhole)
variable (arg10 : Memref sig .tc .vmem S1x1 .f32) (harg10 : arg10.IsWhole)
variable (arg11 : Memref sig .tc .vmem S64x4096 .f32) (harg11 : arg11.IsWhole)
variable (arg12 : Memref sig .tc .vmem S1x512 .f32) (harg12 : arg12.IsWhole)
variable
  (x2 : Vec F S512x1024 .f32)
  (x3 : Vec F S64x8000 .f32)
  (x4 : Vec F S64 .f32)
  (x5 : Vec F S64x1024 .f32)
  (x6 : Vec F S64 .f32)
  (x7 : Vec F S4096x64 .f32)
  (x8 : Vec F S64 .f32)
  (x9 : Vec F S1x64 .f32)
  (x10 : Vec F S1x1 .f32)
  (x11 : Vec F S64x4096 .f32)

/-- The first half of a point's row of results, from the columns the buffer holds. -/
def halfA (v : Vec F S64x8000 .f32) (g : Vec F S8000x256 .f32) : Vec F S1x256 .f32 :=
  k0_pay4 (k0_pay3 (k0_pay2 v) g x4 x5 (fun y => x2 ((Rect.unit (s := S512x1024) ![0, 0] S256x1024.size inb_S512x1024_S256x1024_0_0).emb y)) x6 x7 x11 x8) x9 x10

/-- The second half. -/
def halfB (v : Vec F S64x8000 .f32) (g : Vec F S8000x256 .f32) : Vec F S1x256 .f32 :=
  k0_pay1 (k0_pay5 v g x4 x5 (fun y => x2 ((Rect.unit (s := S512x1024) ![256, 0] S256x1024.size inb_S512x1024_S256x1024_256_0).emb y)) x6 x7) x11 x8 x9 x10

/-- The first half's computation lays its 256 results over columns 0 to 255. -/
theorem wp_midA (v : Vec F S64x8000 .f32) (g : Vec F S8000x256 .f32) (X : Vec F S1x512 .f32) (Q : PUnit → sProp 𝕄) :
    iprop(owns (c : Thread nD τ) arg2 fullShare x2 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare X
        ∗ (owns (c : Thread nD τ) arg2 fullShare x2 -∗ owns (c : Thread nD τ) arg4 fullShare x4 -∗ owns (c : Thread nD τ) arg5 fullShare x5 -∗ owns (c : Thread nD τ) arg6 fullShare x6 -∗ owns (c : Thread nD τ) arg7 fullShare x7 -∗ owns (c : Thread nD τ) arg8 fullShare x8 -∗ owns (c : Thread nD τ) arg9 fullShare x9 -∗ owns (c : Thread nD τ) arg10 fullShare x10 -∗ owns (c : Thread nD τ) arg11 fullShare x11 -∗ owns (c : Thread nD τ) arg12 fullShare
            ((Rect.unit (s := S1x512) ![0, 0] S1x256.size inb_S1x512_S1x256_0_0).overlay X (halfA x2 x4 x5 x6 x7 x8 x9 x10 x11 v g)) -∗ Q ⟨⟩))
      ⊢ wp frame (wpE (defs₀ (F := F)) Variants.none (c : Thread nD τ) none) Set.univ (midA arg2 arg4 arg5 arg6 arg7 arg8 arg9 arg10 arg11 arg12 v g) Q := by
  unfold midA halfA
  iintro ⟨H2, H4, H5, H6, H7, H8, H9, H10, H11, H12, Hk⟩
  iapply (wp_load_full Variants.none none (m := arg4) (X := x4) (q := fullShare)); isplitl [H4]; · iexact H4
  iintro H4
  iapply (wp_load_full Variants.none none (m := arg5) (X := x5) (q := fullShare)); isplitl [H5]; · iexact H5
  iintro H5
  iapply (wp_load_part Variants.none none (m := arg2) (X := x2) (q := fullShare)); isplitl [H2]; · iexact H2
  iintro H2
  iapply (wp_load_full Variants.none none (m := arg6) (X := x6) (q := fullShare)); isplitl [H6]; · iexact H6
  iintro H6
  iapply (wp_load_full Variants.none none (m := arg7) (X := x7) (q := fullShare)); isplitl [H7]; · iexact H7
  iintro H7
  iapply (wp_load_full Variants.none none (m := arg11) (X := x11) (q := fullShare)); isplitl [H11]; · iexact H11
  iintro H11
  iapply (wp_load_full Variants.none none (m := arg8) (X := x8) (q := fullShare)); isplitl [H8]; · iexact H8
  iintro H8
  iapply (wp_load_full Variants.none none (m := arg9) (X := x9) (q := fullShare)); isplitl [H9]; · iexact H9
  iintro H9
  iapply (wp_load_full Variants.none none (m := arg10) (X := x10) (q := fullShare)); isplitl [H10]; · iexact H10
  iintro H10
  iapply (wp_load_part Variants.none none (m := arg12) (X := X) (q := fullShare)); isplitl [H12]; · iexact H12
  iintro H12
  iapply (wp_store_part Variants.none none (m := arg12) (X := X)); isplitl [H12]; · iexact H12
  iintro H12
  iapply Hk $$ H2 H4 H5 H6 H7 H8 H9 H10 H11
  iexact H12

/-- The second half's lays its own over columns 256 to 511. -/
theorem wp_midB (v : Vec F S64x8000 .f32) (g : Vec F S8000x256 .f32) (X : Vec F S1x512 .f32) (Q : PUnit → sProp 𝕄) :
    iprop(owns (c : Thread nD τ) arg2 fullShare x2 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare X
        ∗ (owns (c : Thread nD τ) arg2 fullShare x2 -∗ owns (c : Thread nD τ) arg4 fullShare x4 -∗ owns (c : Thread nD τ) arg5 fullShare x5 -∗ owns (c : Thread nD τ) arg6 fullShare x6 -∗ owns (c : Thread nD τ) arg7 fullShare x7 -∗ owns (c : Thread nD τ) arg8 fullShare x8 -∗ owns (c : Thread nD τ) arg9 fullShare x9 -∗ owns (c : Thread nD τ) arg10 fullShare x10 -∗ owns (c : Thread nD τ) arg11 fullShare x11 -∗ owns (c : Thread nD τ) arg12 fullShare
            ((Rect.unit (s := S1x512) ![0, 256] S1x256.size inb_S1x512_S1x256_0_256).overlay X (halfB x2 x4 x5 x6 x7 x8 x9 x10 x11 v g)) -∗ Q ⟨⟩))
      ⊢ wp frame (wpE (defs₀ (F := F)) Variants.none (c : Thread nD τ) none) Set.univ (midB arg2 arg4 arg5 arg6 arg7 arg8 arg9 arg10 arg11 arg12 v g) Q := by
  unfold midB halfB
  iintro ⟨H2, H4, H5, H6, H7, H8, H9, H10, H11, H12, Hk⟩
  iapply (wp_load_full Variants.none none (m := arg4) (X := x4) (q := fullShare)); isplitl [H4]; · iexact H4
  iintro H4
  iapply (wp_load_full Variants.none none (m := arg5) (X := x5) (q := fullShare)); isplitl [H5]; · iexact H5
  iintro H5
  iapply (wp_load_part Variants.none none (m := arg2) (X := x2) (q := fullShare)); isplitl [H2]; · iexact H2
  iintro H2
  iapply (wp_load_full Variants.none none (m := arg6) (X := x6) (q := fullShare)); isplitl [H6]; · iexact H6
  iintro H6
  iapply (wp_load_full Variants.none none (m := arg7) (X := x7) (q := fullShare)); isplitl [H7]; · iexact H7
  iintro H7
  iapply (wp_load_full Variants.none none (m := arg11) (X := x11) (q := fullShare)); isplitl [H11]; · iexact H11
  iintro H11
  iapply (wp_load_full Variants.none none (m := arg8) (X := x8) (q := fullShare)); isplitl [H8]; · iexact H8
  iintro H8
  iapply (wp_load_full Variants.none none (m := arg9) (X := x9) (q := fullShare)); isplitl [H9]; · iexact H9
  iintro H9
  iapply (wp_load_full Variants.none none (m := arg10) (X := x10) (q := fullShare)); isplitl [H10]; · iexact H10
  iintro H10
  iapply (wp_load_part Variants.none none (m := arg12) (X := X) (q := fullShare)); isplitl [H12]; · iexact H12
  iintro H12
  iapply (wp_store_part Variants.none none (m := arg12) (X := X)); isplitl [H12]; · iexact H12
  iintro H12
  iapply Hk $$ H2 H4 H5 H6 H7 H8 H9 H10 H11
  iexact H12

/-! ## The point -/

/-- What a point leaves in the result's block: the two halves, each from its block of columns. -/
def rowOut (P : Vec F S8000x4096 .f32) (t : ℕ) (X : Vec F S1x512 .f32) : Vec F S1x512 .f32 :=
  (Rect.unit (s := S1x512) ![0, 256] S1x256.size inb_S1x512_S1x256_0_256).overlay
    ((Rect.unit (s := S1x512) ![0, 0] S1x256.size inb_S1x512_S1x256_0_0).overlay X (halfA x2 x4 x5 x6 x7 x8 x9 x10 x11 x3 (cols P (2 * t + 0))))
    (halfB x2 x4 x5 x6 x7 x8 x9 x10 x11 x3 (cols P (2 * t + 1)))

theorem wp_point (i : grid0.Coords) (P : Vec F S8000x4096 .f32) (X : Vec F S1x512 .f32) (Q : PUnit → sProp 𝕄) :
    iprop(RingA c P (i 0).val ∗ RingB c P (i 0).val ∗ iprop(∃ W, owes (c : Thread nD τ) 0 W)
        ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare X
        ∗ (RingA c P ((i 0).val + 1) -∗ RingB c P ((i 0).val + 1) -∗ iprop(∃ W, owes (c : Thread nD τ) 0 W)
            -∗ owns (c : Thread nD τ) arg2 fullShare x2 -∗ owns (c : Thread nD τ) arg3 fullShare x3 -∗ owns (c : Thread nD τ) arg4 fullShare x4 -∗ owns (c : Thread nD τ) arg5 fullShare x5 -∗ owns (c : Thread nD τ) arg6 fullShare x6 -∗ owns (c : Thread nD τ) arg7 fullShare x7 -∗ owns (c : Thread nD τ) arg8 fullShare x8 -∗ owns (c : Thread nD τ) arg9 fullShare x9 -∗ owns (c : Thread nD τ) arg10 fullShare x10 -∗ owns (c : Thread nD τ) arg11 fullShare x11
            -∗ owns (c : Thread nD τ) arg12 fullShare (rowOut x2 x3 x4 x5 x6 x7 x8 x9 x10 x11 P (i 0).val X) -∗ Q ⟨⟩))
      ⊢ wp frame (wpE (defs₀ (F := F)) Variants.none (c : Thread nD τ) none) Set.univ
          (cc0__fused_kernel i hbm (Memref.isWhole_whole _) arg2 harg2 arg3 harg3 arg4 harg4 arg5 harg5 arg6 harg6 arg7 harg7 arg8 harg8 arg9 harg9 arg10 harg10 arg11 harg11 arg12 harg12 bufA (Memref.isWhole_whole _) bufB (Memref.isWhole_whole _) cc0_scratch2 cc0_scratch3) Q := by
  rw [body_eq]
  iintro ⟨HA, HB, HW, H2, H3, H4, H5, H6, H7, H8, H9, H10, H11, H12, Hk⟩
  rw [wp_bind]
  iapply (wp_start c i P); isplitl [HA]; · iexact HA
  isplitl [HB]; · iexact HB
  iintro HA HB
  rw [wp_bind]
  iapply (wp_filled c bufA smA qA P id (fun _ => rfl) (oWA i) (oWA_inb i)); isplitl [HA]; · iexact HA
  isplitl [HW]; · iexact HW
  iintro HA HW
  unfold Rest
  icases HA with ⟨HA, HAs⟩
  iapply (wp_load_full Variants.none none (m := arg3) (X := x3) (q := fullShare)); isplitl [H3]; · iexact H3
  iintro H3
  iapply (wp_load_full Variants.none none (m := bufA) (X := cols P (2 * (i 0).val + 0)) (q := fullShare)); isplitl [HA]; · iexact HA
  iintro HA
  rw [wp_bind]
  iapply (wp_againA c i P (cols P (2 * (i 0).val + 0))); isplitl [HA HAs]
  · unfold Rest; isplitl [HA] <;> iassumption
  iintro HA
  rw [wp_bind]
  iapply (wp_midA c arg2 arg4 arg5 arg6 arg7 arg8 arg9 arg10 arg11 arg12 x2 x4 x5 x6 x7 x8 x9 x10 x11 x3 (cols P (2 * (i 0).val + 0)) X)
  isplitl [H2]; · iexact H2
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro H2 H4 H5 H6 H7 H8 H9 H10 H11 H12
  rw [wp_bind]
  iapply (wp_filled c bufB smB qB P id (fun _ => rfl) (oWB i) (oWB_inb i)); isplitl [HB]; · iexact HB
  isplitl [HW]; · iexact HW
  iintro HB HW
  unfold Rest
  icases HB with ⟨HB, HBs⟩
  iapply (wp_load_full Variants.none none (m := arg3) (X := x3) (q := fullShare)); isplitl [H3]; · iexact H3
  iintro H3
  iapply (wp_load_full Variants.none none (m := bufB) (X := cols P (2 * (i 0).val + 1)) (q := fullShare)); isplitl [HB]; · iexact HB
  iintro HB
  rw [wp_bind]
  iapply (wp_againB c i P (cols P (2 * (i 0).val + 1))); isplitl [HB HBs]
  · unfold Rest; isplitl [HB] <;> iassumption
  iintro HB
  iapply (wp_midB c arg2 arg4 arg5 arg6 arg7 arg8 arg9 arg10 arg11 arg12 x2 x4 x5 x6 x7 x8 x9 x10 x11 x3 (cols P (2 * (i 0).val + 1)))
  isplitl [H2]; · iexact H2
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro H2 H4 H5 H6 H7 H8 H9 H10 H11 H12
  iapply Hk $$ HA HB HW H2 H3 H4 H5 H6 H7 H8 H9 H10 H11
  unfold rowOut
  iexact H12

end Mid

end Cert.KernelIdeal.Hand

end

end
-- ==== Proof.KernelIdealRun.lean ====
/-
  `KernelIdeal`'s run. Between points the launch's holdings are the two rings' (at rest before the first point and after the
  last, filling in between), the generator register's word and what is left of the array the copies read; a point takes
  them one point further and leaves in the result's block the row of its 512 columns. The run then ends with every
  semaphore at zero, the arguments as launched and the result the blocks the points left.
-/
module

public import proofs.«01_k».proof.Proof.KernelIdealBody

@[expose] public section

set_option maxRecDepth 16384

noncomputable section

namespace Cert.KernelIdeal.Hand

open Cert.KernelIdeal Cert.KernelIdeal.Gen
open Cert.Chunks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the kernel moves by itself -/

/-- The copies' semaphores: twenty-five for the first buffer, twenty-five for the second. -/
abbrev osem0 : Fin 25 ⊕ Fin 25 → SemLoc sig := Sum.elim (fun j => .dma (smA j)) (fun j => .dma (smB j))
theorem ownSemFacts0 : Pipeline.OwnSemFacts spec0 osem0 := by decide
/-- The one array the copies read. -/
abbrev H0 : Finset (Ref sig .tc) := {main_v0}
theorem H0_sub : H0 ⊆ Pipeline.restRefs sig spec0 := by decide

/-- The array the copies read, as the region finds it. -/
abbrev src (c : Dev nD) : Vec F S8000x4096 .f32 := V m c main_v0

/-- What the two rings leave of the array. -/
abbrev left (c : Dev nD) : sProp 𝕄 :=
  hbm.view.loc (c : Thread nD τ) ↦{shareDrop (shareDrop fullShare 25) 25} src m c

/-- The rings at rest, with what is left of the array and the generator register: exactly what the launch holds for the
    kernel's own copies. -/
theorem holdings_eq (c : Dev nD) :
    (Pipeline.ΦD osem0 spec0 H0 (V m) c : sProp 𝕄)
      ⊣⊢ iprop((∃ X, Rest c bufA smA qA (src m c) X) ∗ (∃ X, Rest c bufB smB qB (src m c) X) ∗ (∃ r, prngReg c r) ∗ left m c) := by
  have hA : (hbm.view.loc (c : Thread nD τ) ↦{fullShare} src m c : sProp 𝕄) ⊣⊢ _ := pointsTo_toks fullShare 25
  have hB : (hbm.view.loc (c : Thread nD τ) ↦{shareDrop fullShare 25} src m c : sProp 𝕄) ⊣⊢ _ := pointsTo_toks (shareDrop fullShare 25) 25
  rw [Pipeline.ΦD_eq, scopedRest0_eq, BI.bigSep_singleton]
  unfold Pipeline.ownSems0 Rest
  rw [show (bigSep Finset.univ (fun k => semVal ((c : Thread nD τ), osem0 k) 0) : sProp 𝕄)
      = iprop(bigSep Finset.univ (fun j => semVal ((c : Thread nD τ), SemLoc.dma (smA j)) 0) ∗ bigSep Finset.univ (fun j => semVal ((c : Thread nD τ), SemLoc.dma (smB j)) 0))
    from BI.bigSep_univ_sum _]
  constructor
  · iintro ⟨⟨⟨%f, Hf⟩, ⟨%f', Hf'⟩⟩, Hr, ⟨Hs, Hs'⟩, Hv⟩
    ihave Hv := hA.1 $$ Hv
    icases Hv with ⟨Hv, Ht⟩
    ihave Hv := hB.1 $$ Hv
    icases Hv with ⟨Hv, Ht'⟩
    isplitl [Hf Hs Ht]
    · iexists f
      rw [owns_whole]
      isplitl [Hf]; · iexact Hf
      isplitl [Hs]; · iexact Hs
      iexact Ht
    isplitl [Hf' Hs' Ht']
    · iexists f'
      rw [owns_whole]
      isplitl [Hf']; · iexact Hf'
      isplitl [Hs']; · iexact Hs'
      iexact Ht'
    isplitl [Hr]; · iexact Hr
    iexact Hv
  · iintro ⟨⟨%f, Hf, Hs, Ht⟩, ⟨%f', Hf', Hs', Ht'⟩, Hr, Hv⟩
    ihave Hv := hB.2 $$ [Hv Ht']
    · isplitl [Hv] <;> iassumption
    ihave Hv := hA.2 $$ [Hv Ht]
    · isplitl [Hv] <;> iassumption
    ihave Hf := (Entails.of_eq (owns_whole (c : Thread nD τ) cc0_scratch0 fullShare f)) $$ Hf
    ihave Hf' := (Entails.of_eq (owns_whole (c : Thread nD τ) cc0_scratch1 fullShare f')) $$ Hf'
    isplitl [Hf Hf']
    · isplitl [Hf]
      · iexists f; iexact Hf
      · iexists f'; iexact Hf'
    isplitl [Hr]; · iexact Hr
    isplitl [Hs Hs']
    · isplitl [Hs]; · iexact Hs
      iexact Hs'
    iexact Hv

/-! ## The proof data -/

/-- The row of 512 columns point `t` leaves in the result's block. -/
def row (c : Dev nD) (t : Fin cfg0.N) : Vec F S1x512 .f32 :=
  rowOut (iblk m c 0 t) (iblk m c 1 t) (iblk m c 2 t) (iblk m c 3 t) (iblk m c 4 t) (iblk m c 5 t) (iblk m c 6 t) (iblk m c 7 t) (iblk m c 8 t) (iblk m c 9 t) (src m c) t.val (constant S1x512 .f32 0#32)

/-- The proof data: each operand's block stays as fetched, the result's block ends as the point's row, and between points
    the rings are as `Ring` says. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => row m c t
  Φ p := iprop(RingA c (src m c) p.val ∗ RingB c (src m c) p.val ∗ (∃ r, prngReg c r) ∗ left m c)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = row m c t := by dsimp only [dats]

section Before

variable {m} {c : Dev nD} (dat : Dat τ (Elt F) Unit ℕ (Pipeline.UD sig nD τ) ℕ cfg0 c) (hA : ∀ w, dat.A w = V m c (Pipeline.arrRef spec0 w))
include hA

/-! An operand's staging buffer holds its block at every point, fetched there or not. -/
theorem before0_0 (h : ∀ t, dat.after 0 t = iblk m c 0 t) (t : Fin cfg0.N) (d) : dat.before 0 t d = iblk m c 0 t :=
  (dat.before_in_eq_fetched 0 rfl (fun _ => rfl) (fun _ _ _ => rfl) (fun t => by rw [h]; unfold Dat.blockOf iblk; rw [hA]; try rfl) t d).trans
    (by unfold Dat.fetched Dat.blockOf iblk; rw [hA]; try rfl)
theorem before0_1 (h : ∀ t, dat.after 1 t = iblk m c 1 t) (t : Fin cfg0.N) (d) : dat.before 1 t d = iblk m c 1 t :=
  (dat.before_in_eq_fetched 1 rfl (fun _ => rfl) (fun _ _ _ => rfl) (fun t => by rw [h]; unfold Dat.blockOf iblk; rw [hA]; try rfl) t d).trans
    (by unfold Dat.fetched Dat.blockOf iblk; rw [hA]; try rfl)
theorem before0_2 (h : ∀ t, dat.after 2 t = iblk m c 2 t) (t : Fin cfg0.N) (d) : dat.before 2 t d = iblk m c 2 t :=
  (dat.before_in_eq_fetched 2 rfl (fun _ => rfl) (fun _ _ _ => rfl) (fun t => by rw [h]; unfold Dat.blockOf iblk; rw [hA]; try rfl) t d).trans
    (by unfold Dat.fetched Dat.blockOf iblk; rw [hA]; try rfl)
theorem before0_3 (h : ∀ t, dat.after 3 t = iblk m c 3 t) (t : Fin cfg0.N) (d) : dat.before 3 t d = iblk m c 3 t :=
  (dat.before_in_eq_fetched 3 rfl (fun _ => rfl) (fun _ _ _ => rfl) (fun t => by rw [h]; unfold Dat.blockOf iblk; rw [hA]; try rfl) t d).trans
    (by unfold Dat.fetched Dat.blockOf iblk; rw [hA]; try rfl)
theorem before0_4 (h : ∀ t, dat.after 4 t = iblk m c 4 t) (t : Fin cfg0.N) (d) : dat.before 4 t d = iblk m c 4 t :=
  (dat.before_in_eq_fetched 4 rfl (fun _ => rfl) (fun _ _ _ => rfl) (fun t => by rw [h]; unfold Dat.blockOf iblk; rw [hA]; try rfl) t d).trans
    (by unfold Dat.fetched Dat.blockOf iblk; rw [hA]; try rfl)
theorem before0_5 (h : ∀ t, dat.after 5 t = iblk m c 5 t) (t : Fin cfg0.N) (d) : dat.before 5 t d = iblk m c 5 t :=
  (dat.before_in_eq_fetched 5 rfl (fun _ => rfl) (fun _ _ _ => rfl) (fun t => by rw [h]; unfold Dat.blockOf iblk; rw [hA]; try rfl) t d).trans
    (by unfold Dat.fetched Dat.blockOf iblk; rw [hA]; try rfl)
theorem before0_6 (h : ∀ t, dat.after 6 t = iblk m c 6 t) (t : Fin cfg0.N) (d) : dat.before 6 t d = iblk m c 6 t :=
  (dat.before_in_eq_fetched 6 rfl (fun _ => rfl) (fun _ _ _ => rfl) (fun t => by rw [h]; unfold Dat.blockOf iblk; rw [hA]; try rfl) t d).trans
    (by unfold Dat.fetched Dat.blockOf iblk; rw [hA]; try rfl)
theorem before0_7 (h : ∀ t, dat.after 7 t = iblk m c 7 t) (t : Fin cfg0.N) (d) : dat.before 7 t d = iblk m c 7 t :=
  (dat.before_in_eq_fetched 7 rfl (fun _ => rfl) (fun _ _ _ => rfl) (fun t => by rw [h]; unfold Dat.blockOf iblk; rw [hA]; try rfl) t d).trans
    (by unfold Dat.fetched Dat.blockOf iblk; rw [hA]; try rfl)
theorem before0_8 (h : ∀ t, dat.after 8 t = iblk m c 8 t) (t : Fin cfg0.N) (d) : dat.before 8 t d = iblk m c 8 t :=
  (dat.before_in_eq_fetched 8 rfl (fun _ => rfl) (fun _ _ _ => rfl) (fun t => by rw [h]; unfold Dat.blockOf iblk; rw [hA]; try rfl) t d).trans
    (by unfold Dat.fetched Dat.blockOf iblk; rw [hA]; try rfl)
theorem before0_9 (h : ∀ t, dat.after 9 t = iblk m c 9 t) (t : Fin cfg0.N) (d) : dat.before 9 t d = iblk m c 9 t :=
  (dat.before_in_eq_fetched 9 rfl (fun _ => rfl) (fun _ _ _ => rfl) (fun t => by rw [h]; unfold Dat.blockOf iblk; rw [hA]; try rfl) t d).trans
    (by unfold Dat.fetched Dat.blockOf iblk; rw [hA]; try rfl)
end Before

/-- A point's coordinate is its number. -/
theorem coords_val : ∀ t : Fin cfg0.N, (grid0.coords t 0).val = t.val := by
  show ∀ t : Fin 8, _
  decide

/-- The row does not depend on what the result's block held: the two halves cover it. -/
theorem rowOut_eq (x2 x3 x4 x5 x6 x7 x8 x9 x10 x11) (P : Vec F S8000x4096 .f32) (t : ℕ) (X X' : Vec F S1x512 .f32) :
    rowOut x2 x3 x4 x5 x6 x7 x8 x9 x10 x11 P t X = rowOut x2 x3 x4 x5 x6 x7 x8 x9 x10 x11 P t X' := by
  unfold rowOut
  funext y
  by_cases h : y ∈ (Rect.unit (s := S1x512) ![0, 256] S1x256.size inb_S1x512_S1x256_0_256).set
  · rw [← Rect.map_emb_univ] at h
    obtain ⟨i, -, rfl⟩ := Finset.mem_map.1 h
    rw [Rect.overlay_emb, Rect.overlay_emb]
  · rw [Rect.overlay_of_not_mem _ _ _ h, Rect.overlay_of_not_mem _ _ _ h]
    have h' : y ∈ (Rect.unit (s := S1x512) ![0, 0] S1x256.size inb_S1x512_S1x256_0_0).set := by
      have h0 : (y 0).val < 1 := (y 0).isLt
      have h1 : (y 1).val < 512 := (y 1).isLt
      rw [Rect.mem_set_unit] at h ⊢
      intro a
      match a with
      | 0 => exact ⟨Nat.zero_le _, h0⟩
      | 1 =>
        refine ⟨Nat.zero_le _, ?_⟩
        show (y 1).val < 0 + 256
        by_contra hc
        refine h fun a => ?_
        match a with
        | 0 => exact ⟨Nat.zero_le _, h0⟩
        | 1 => exact ⟨show 256 ≤ (y 1).val by omega, show (y 1).val < 256 + 256 by omega⟩
    rw [← Rect.map_emb_univ] at h'
    obtain ⟨i, -, rfl⟩ := Finset.mem_map.1 h'
    rw [Rect.overlay_emb, Rect.overlay_emb]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- One point, in the launch's words. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0 (dats m 0 c) (A_eq m c) (after0_0 m c), before0_1 (dats m 0 c) (A_eq m c) (after0_1 m c), before0_2 (dats m 0 c) (A_eq m c) (after0_2 m c), before0_3 (dats m 0 c) (A_eq m c) (after0_3 m c), before0_4 (dats m 0 c) (A_eq m c) (after0_4 m c), before0_5 (dats m 0 c) (A_eq m c) (after0_5 m c), before0_6 (dats m 0 c) (A_eq m c) (after0_6 m c), before0_7 (dats m 0 c) (A_eq m c) (after0_7 m c), before0_8 (dats m 0 c) (A_eq m c) (after0_8 m c), before0_9 (dats m 0 c) (A_eq m c) (after0_9 m c)]
  rw [show (dats m 0 c).Φ t.castSucc = iprop(RingA c (src m c) t.val ∗ RingB c (src m c) t.val ∗ (∃ r, prngReg c r) ∗ left m c) from rfl,
    show (dats m 0 c).Φ t.succ = iprop(RingA c (src m c) (t.val + 1) ∗ RingB c (src m c) (t.val + 1) ∗ (∃ r, prngReg c r) ∗ left m c) from rfl]
  unfold Dat.owesAt Pipeline.owesWithin
  rw [show (dats m 0 c).owed t.castSucc = 0 from rfl, show (dats m 0 c).owed t.succ = 0 from rfl]
  have hpt := fun X => wp_point (F := F) c (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (iblk m c 0 t) (iblk m c 1 t) (iblk m c 2 t) (iblk m c 3 t) (iblk m c 4 t) (iblk m c 5 t) (iblk m c 6 t) (iblk m c 7 t) (iblk m c 8 t) (iblk m c 9 t) (grid0.coords t) (src m c) X
    (fun _ => bodyPost m c t)
  have hr : ∀ X, rowOut (iblk m c 0 t) (iblk m c 1 t) (iblk m c 2 t) (iblk m c 3 t) (iblk m c 4 t) (iblk m c 5 t) (iblk m c 6 t) (iblk m c 7 t) (iblk m c 8 t) (iblk m c 9 t) (src m c) t.val X = row m c t := fun X => by unfold row; exact rowOut_eq ..
  simp only [coords_val, hr] at hpt
  iintro ⟨⟨HA, HB, Hr, Hv⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (hpt _)
  isplitl [HA]; · iexact HA
  isplitl [HB]; · iexact HB
  isplitl [HW]; · iexists W; iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro HA HB ⟨%W', HW⟩ H0 H1 H2 H3 H4 H5 H6 H7 H8 H9 H10
  unfold bodyPost
  rw [show (dats m 0 c).Φ t.succ = iprop(RingA c (src m c) (t.val + 1) ∗ RingB c (src m c) (t.val + 1) ∗ (∃ r, prngReg c r) ∗ left m c) from rfl]
  simp only [after0_0, after0_1, after0_2, after0_3, after0_4, after0_5, after0_6, after0_7, after0_8, after0_9, after0_10]
  isplitl [HA HB Hr Hv]
  · isplitl [HA]; · iexact HA
    isplitl [HB]; · iexact HB
    isplitl [Hr]; · iexact Hr
    iexact Hv
  isplitl [HW]
  · unfold Dat.owesAt Pipeline.owesWithin
    iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option maxHeartbeats 800000 in
/-- @main is host lines, the region, host lines. -/
theorem hmain : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The host lines after the region touch neither what the kernel copies from nor what the launch holds for it. -/
theorem tail_sub : ∀ ops ∈ [hostOps1 (F := F)], ∀ op ∈ ops, op.bufs ⊆ Pipeline.tailRefsBut sig Pipeline.Prefetch.none spec0 H0 := by
  intro ops hops op hop
  simp only [List.mem_cons, List.mem_nil_iff, or_false] at hops
  subst hops
  refine Pipeline.sub_tailRefsBut _ _ _ op ((List.forall_iff_forall_mem.mp hostOps1_sub) op hop) (fun k => k.elim0) fun b hb => ?_
  simp only [hostOps1, List.mem_cons, List.mem_nil_iff, or_false] at hop
  subst hop
  rw [Finset.mem_singleton.mp hb]
  simp only [StableHlo.reshape_bufs, Finset.mem_insert, Finset.mem_singleton, not_or]
  exact ⟨StableHlo.devRef_ne_of_ne (by decide), StableHlo.devRef_ne_of_ne (by decide)⟩

/-- A buffer that is neither the reshaped result nor a window's array ends as the region found it. -/
theorem tail_keeps (D : (p : Fin 1) → (c : Dev nD) → Dat τ (Elt F) Unit ℕ (Pipeline.UD sig nD τ) ℕ (cfgs p) c) (c : Dev nD) (b : Ref sig .tc)
    (h7 : b ≠ main_v15) (hb : ∀ w, Pipeline.arrRef spec0 w ≠ b) :
    Pipeline.afterTail₀ cfgs D 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact StableHlo.devRef_ne_of_ne h7)),
    Pipeline.withArrays_of_ne _ c (V0 m c) _ b hb]

set_option backward.isDefEq.respectTransparency.types false in
/-- The run: it ends with every array a window stages as the proof data leave it, every other buffer as the host lines
    after the region leave it, and every semaphore at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around cfgs (dats m) (0 : Fin 1) launch0 osem0 defs₀ Variants.none ownSemFacts0 H0 H0_sub m ρ main
    (fun c => (body_obligation m c).loose) (fun c => (dats m 0 c).share_full fun _ => rfl) (fun _ _ => rfl)
    (V0 m) [hostOps1] tail_sub sfx_fresh sfx_keeps (hmain m) (A_eq m)
    (fun c => (holdings_eq m c).1.trans (by
      rw [show (dats m 0 c).Φ 0 = iprop(RingA c (src m c) 0 ∗ RingB c (src m c) 0 ∗ (∃ r, prngReg c r) ∗ left m c) from rfl]
      unfold RingA RingB Ring
      rw [if_pos (Or.inl rfl), if_pos (Or.inl rfl)]))
    (fun c => BIBase.Entails.trans (by
      rw [show (dats m 0 c).Φ (Fin.last cfg0.N) = iprop(RingA c (src m c) 8 ∗ RingB c (src m c) 8 ∗ (∃ r, prngReg c r) ∗ left m c) from rfl]
      unfold RingA RingB Ring
      rw [if_pos (Or.inr (le_refl 8)), if_pos (Or.inr (le_refl 8))]) (holdings_eq m c).2)
    _ (fun _ h => h)

/-- What a run to the launch's post leaves in the arguments: what they held. -/
theorem args_kept {s : MemSt nD τ sig (Elt F)}
    (h : Pipeline.FramePost cfgs (dats m) 0 (Pipeline.afterTail₀ cfgs (dats m) 0 (V0 m) [hostOps1]) (⟨⟩, s)) (c : Dev nD) :
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9) := by
  have hr : ∀ b : Ref sig .tc, b ∈ Pipeline.restRefs sig spec0 → b ≠ main_v15 → (∀ w, Pipeline.arrRef spec0 w ≠ b) →
      s.mem ((c.tc : Thread nD τ).loc b) = V m c b := fun b hb h7 hw => ((h c).2 b hb).trans (tail_keeps m (dats m) c b h7 hw)
  have hi : ∀ w, (cfg0.win w).isOut = false → s.mem (((cfg0.win w).arr.view.loc (c.tc : Thread nD τ))) = V m c (Pipeline.arrRef spec0 w) :=
    fun w hw => ((h c).1 w).trans (((dats m 0 c).arrAt_in w hw _).trans (A_eq m c w))
  exact ⟨(hr main_arg0 (by decide) (by decide) (by decide)).trans (V_main_arg0 m c),
    (hi 0 rfl).trans (V_main_arg1 m c),
    (hr main_arg2 (by decide) (by decide) (by decide)).trans (V_main_arg2 m c),
    (hi 2 rfl).trans (V_main_arg3 m c),
    (hr main_arg4 (by decide) (by decide) (by decide)).trans (V_main_arg4 m c),
    (hi 4 rfl).trans (V_main_arg5 m c),
    (hr main_arg6 (by decide) (by decide) (by decide)).trans (V_main_arg6 m c),
    (hi 6 rfl).trans (V_main_arg7 m c),
    (hr main_arg8 (by decide) (by decide) (by decide)).trans (V_main_arg8 m c),
    (hr main_arg9 (by decide) (by decide) (by decide)).trans (V_main_arg9 m c)⟩

/-- The frame: the program terminates without fault, its arguments end unchanged, every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨args_kept m h.1, h.2⟩) (run_main m ρ)

end Cert.KernelIdeal.Hand

end

end
-- ==== Proof.Half.lean ====
/-
  What one half of a point computes over the extended reals. The kernel forms, for its 256 columns, the 4096 products
  (64 for each of the 64 outputs) of a bilinear term at once, by the transformed compound features repeated against the
  protein features stacked 64 times, and adds each output's 64 by a product with a matrix of zeros and ones. Here that
  product is read as the sums it stands for.
-/
module

public import proofs.«01_k».proof.Proof.Gen.KernelIdeal.Skeleton
public import Idealize.ShloMosaic.Lib.Pointwise
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe
open Idealize.SL.Sem

/-- The protein features of a half: 64 rows of 256 columns. -/
def protOf (v : FVec Ideal S64x8000 .f32) (g : FVec Ideal S8000x256 .f32) (b : FVec Ideal S64 .f32) : FVec Ideal S64x256 .f32 :=
  maximumf (addf (matmul dot_S64x8000_S8000x256_S64x256_1_0_0_1_n_n none (shapeCast S64x8000 v shapeCasts_S64x8000_S64x8000) g (constant S64x256 .f32 0x00000000#32))
    (broadcastTo S64x256 (shapeCast S64x1 b shapeCasts_S64_S64x1) broadcasts_S64x1_S64x256)) (broadcast S64x256 (Scalar.ofBits .f32 0x00000000#32))

/-- The compound features of a half. -/
def compOf (w : FVec Ideal S64x1024 .f32) (x : FVec Ideal S256x1024 .f32) (b : FVec Ideal S64 .f32) : FVec Ideal S64x256 .f32 :=
  maximumf (addf (matmul dot_S64x1024_S256x1024_S64x256_1_1_0_0_n_n none (shapeCast S64x1024 w shapeCasts_S64x1024_S64x1024) x (constant S64x256 .f32 0x00000000#32))
    (broadcastTo S64x256 (shapeCast S64x1 b shapeCasts_S64_S64x1) broadcasts_S64x1_S64x256)) (broadcast S64x256 (Scalar.ofBits .f32 0x00000000#32))

/-- The protein features stacked 64 times. -/
def stacked (p : FVec Ideal S64x256 .f32) : FVec Ideal S4096x256 .f32 :=
  concatenate S4096x256 0 (List.replicate 64 (⟨S64x256, p⟩ : (s : Shape) × (s.Idx → Ideal .f32)))
    concatenates_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S4096x256_d0

/-- The 4096 products are those of the mixed compound features and the stacked protein features. -/
theorem pay5_eq (v : FVec Ideal S64x8000 .f32) (g : FVec Ideal S8000x256 .f32) (bp : FVec Ideal S64 .f32) (wc : FVec Ideal S64x1024 .f32)
    (x : FVec Ideal S256x1024 .f32) (bc : FVec Ideal S64 .f32) (wb : FVec Ideal S4096x64 .f32) :
    k0_pay5 (F := Ideal) v g bp wc x bc wb
      = mulf (matmul dot_S4096x64_S64x256_S4096x256_1_0_0_1_n_n none (shapeCast S4096x64 wb shapeCasts_S4096x64_S4096x64) (compOf wc x bc)
          (constant S4096x256 .f32 0x00000000#32)) (stacked (protOf v g bp)) := rfl

/-- The first half's text computes what the second's does, of its own rows and columns. -/
theorem pay34_eq (v : FVec Ideal S64x8000 .f32) (g : FVec Ideal S8000x256 .f32) (bp : FVec Ideal S64 .f32) (wc : FVec Ideal S64x1024 .f32)
    (x : FVec Ideal S256x1024 .f32) (bc : FVec Ideal S64 .f32) (wb : FVec Ideal S4096x64 .f32) (S : FVec Ideal S64x4096 .f32)
    (bb : FVec Ideal S64 .f32) (wl : FVec Ideal S1x64 .f32) (bl : FVec Ideal S1x1 .f32) :
    k0_pay4 (F := Ideal) (k0_pay3 (k0_pay2 v) g bp wc x bc wb S bb) wl bl = k0_pay1 (k0_pay5 v g bp wc x bc wb) S bb wl bl := rfl

/-- The protein features read at row `i`, column `l`: the product's entry, its bias added, the negative part dropped. -/
theorem protOf_at (v : FVec Ideal S64x8000 .f32) (g : FVec Ideal S8000x256 .f32) (b : FVec Ideal S64 .f32) (i : Fin 64) (l : Fin 256) :
    protOf v g b (ix2 i l) = max ((∑ k : Fin 8000, v (ix2 i k) * g (ix2 k l)) + b (ix1 i)) 0 := by
  pointwise! [protOf]

/-- The compound features read at row `j`, column `l`. -/
theorem compOf_at (w : FVec Ideal S64x1024 .f32) (x : FVec Ideal S256x1024 .f32) (b : FVec Ideal S64 .f32) (j : Fin 64) (l : Fin 256) :
    compOf w x b (ix2 j l) = max ((∑ k : Fin 1024, w (ix2 j k) * x (ix2 l k)) + b (ix1 j)) 0 := by
  pointwise! [compOf]

/-- Row `64 o + i` of the stack is row `i`. -/
theorem stacked_at (p : FVec Ideal S64x256 .f32) (o i : Fin 64) (l : Fin 256) (h : o.val * 64 + i.val < 4096) :
    stacked p (ix2 ⟨o.val * 64 + i.val, h⟩ l) = p (ix2 i l) := by
  unfold stacked
  refine concatenate_replicate_apply (t := S4096x256) (s₁ := S64x256) 0 64 p _ rfl _ (ix2 i l) ?_ ?_
  · show i.val = (o.val * 64 + i.val) % 64
    have := i.isLt; omega
  · intro b hb
    match b with
    | 0 => exact absurd rfl hb
    | 1 => rfl

/-- A row of the matrix of zeros and ones picks its output's 64 products. -/
theorem pick (S : FVec Ideal S64x4096 .f32) (hS : ∀ (o : Fin 64) (k : Fin 4096), S (ix2 o k) = if k.val / 64 = o.val then 1 else 0)
    (z : Fin 4096 → EReal) (o : Fin 64) :
    ∑ k : Fin 4096, S (ix2 o k) * z k = ∑ i : Fin 64, z ⟨o.val * 64 + i.val, by have := o.isLt; have := i.isLt; omega⟩ := by
  rw [Fin.sum_univ_tiles 64 64 rfl, Finset.sum_eq_single o]
  · refine Finset.sum_congr rfl fun i _ => ?_
    rw [hS, if_pos (by have := i.isLt; show (o.val * 64 + i.val) / 64 = o.val; omega), one_mul]
  · intro b _ hb
    refine Finset.sum_eq_zero fun i _ => ?_
    rw [hS, if_neg (fun h => hb (Fin.ext (by
      have := i.isLt; have h' : (b.val * 64 + i.val) / 64 = o.val := h; omega))), zero_mul]
  · intro h; exact absurd (Finset.mem_univ o) h

/-- A half's output read at column `l`. -/
theorem half_at (v : FVec Ideal S64x8000 .f32) (g : FVec Ideal S8000x256 .f32) (bp : FVec Ideal S64 .f32) (wc : FVec Ideal S64x1024 .f32)
    (x : FVec Ideal S256x1024 .f32) (bc : FVec Ideal S64 .f32) (wb : FVec Ideal S4096x64 .f32) (S : FVec Ideal S64x4096 .f32)
    (bb : FVec Ideal S64 .f32) (wl : FVec Ideal S1x64 .f32) (bl : FVec Ideal S1x1 .f32)
    (hS : ∀ (o : Fin 64) (k : Fin 4096), S (ix2 o k) = if k.val / 64 = o.val then 1 else 0) (l : Fin 256) :
    k0_pay1 (F := Ideal) (k0_pay5 v g bp wc x bc wb) S bb wl bl (ix2 0 l)
      = (∑ o : Fin 64, wl (ix2 0 o) * max ((∑ i : Fin 64,
            (∑ j : Fin 64, wb (ix2 ⟨o.val * 64 + i.val, by have := o.isLt; have := i.isLt; omega⟩ j)
                * max ((∑ k : Fin 1024, wc (ix2 j k) * x (ix2 l k)) + bc (ix1 j)) 0)
              * max ((∑ k : Fin 8000, v (ix2 i k) * g (ix2 k l)) + bp (ix1 i)) 0) + bb (ix1 o)) 0) + bl (ix2 0 0) := by
  have h5 : ∀ k : Fin 4096, k0_pay5 (F := Ideal) v g bp wc x bc wb (ix2 k l)
      = (∑ j : Fin 64, wb (ix2 k j) * compOf wc x bc (ix2 j l)) * stacked (protOf v g bp) (ix2 k l) := by
    intro k; rw [pay5_eq]; pointwise!
  have h1 : k0_pay1 (F := Ideal) (k0_pay5 v g bp wc x bc wb) S bb wl bl (ix2 0 l)
      = (∑ o : Fin 64, wl (ix2 0 o) * max ((∑ k : Fin 4096, S (ix2 o k) * k0_pay5 (F := Ideal) v g bp wc x bc wb (ix2 k l)) + bb (ix1 o)) 0)
        + bl (ix2 0 0) := by
    generalize k0_pay5 (F := Ideal) v g bp wc x bc wb = z
    pointwise! [k0_pay1]
  rw [h1]
  refine congrArg (· + bl (ix2 0 0)) (Finset.sum_congr rfl fun o _ => ?_)
  rw [pick S hS (fun k => k0_pay5 (F := Ideal) v g bp wc x bc wb (ix2 k l))]
  refine congrArg (fun s => wl (ix2 0 o) * max (s + bb (ix1 o)) 0) (Finset.sum_congr rfl fun i _ => ?_)
  show k0_pay5 (F := Ideal) v g bp wc x bc wb (ix2 ⟨o.val * 64 + i.val, _⟩ l) = _
  rw [h5, stacked_at, protOf_at]
  simp only [compOf_at]

/-- The result at row `b`, from the argument arrays: the protein features (`A0`, weights `A2`, bias `A3`) and the compound
    features (`A1`, `A4`, `A5`), each with its negative part dropped; their bilinear form with the weights `A6` and the bias
    `A7` for each of 64 outputs, the negative part dropped; and the last layer (`A8`, `A9`). -/
def outAt (A0 : FVec Ideal S4096x8000 .f32) (A1 : FVec Ideal S4096x1024 .f32) (A2 : FVec Ideal S8000x64 .f32) (A3 : FVec Ideal S64 .f32)
    (A4 : FVec Ideal S1024x64 .f32) (A5 : FVec Ideal S64 .f32) (A6 : FVec Ideal S64x64x64 .f32) (A7 : FVec Ideal S64 .f32)
    (A8 : FVec Ideal S64x1 .f32) (A9 : FVec Ideal S1 .f32) (b : Fin 4096) : EReal :=
  (∑ o : Fin 64, max ((∑ i : Fin 64, max ((∑ k : Fin 8000, A0 (ix2 b k) * A2 (ix2 k i)) + A3 (ix1 i)) 0
        * ∑ j : Fin 64, max ((∑ k : Fin 1024, A1 (ix2 b k) * A4 (ix2 k j)) + A5 (ix1 j)) 0 * A6 (ix3 o i j)) + A7 (ix1 o)) 0 * A8 (ix2 o 0))
    + A9 (ix1 0)

/-- A half whose operands are the argument arrays, transposed and reshaped as the kernel takes them, and whose columns are
    the rows `r l` of the two inputs, computes the result at those rows. -/
theorem half_out {A0 : FVec Ideal S4096x8000 .f32} {A1 : FVec Ideal S4096x1024 .f32} {A2 : FVec Ideal S8000x64 .f32} {A3 : FVec Ideal S64 .f32}
    {A4 : FVec Ideal S1024x64 .f32} {A5 : FVec Ideal S64 .f32} {A6 : FVec Ideal S64x64x64 .f32} {A7 : FVec Ideal S64 .f32}
    {A8 : FVec Ideal S64x1 .f32} {A9 : FVec Ideal S1 .f32}
    {v : FVec Ideal S64x8000 .f32} {g : FVec Ideal S8000x256 .f32} {bp : FVec Ideal S64 .f32} {wc : FVec Ideal S64x1024 .f32}
    {x : FVec Ideal S256x1024 .f32} {bc : FVec Ideal S64 .f32} {wb : FVec Ideal S4096x64 .f32} {S : FVec Ideal S64x4096 .f32}
    {bb : FVec Ideal S64 .f32} {wl : FVec Ideal S1x64 .f32} {bl : FVec Ideal S1x1 .f32} (r : Fin 256 → Fin 4096)
    (hx : ∀ l k, x (ix2 l k) = A1 (ix2 (r l) k)) (hg : ∀ k l, g (ix2 k l) = A0 (ix2 (r l) k))
    (hv : ∀ i k, v (ix2 i k) = A2 (ix2 k i)) (hbp : ∀ i : Fin 64, bp (ix1 i) = A3 (ix1 i))
    (hwc : ∀ j k, wc (ix2 j k) = A4 (ix2 k j)) (hbc : ∀ j : Fin 64, bc (ix1 j) = A5 (ix1 j))
    (hwb : ∀ (o i j : Fin 64) (h : o.val * 64 + i.val < 4096), wb (ix2 ⟨o.val * 64 + i.val, h⟩ j) = A6 (ix3 o i j))
    (hbb : ∀ o : Fin 64, bb (ix1 o) = A7 (ix1 o)) (hwl : ∀ o : Fin 64, wl (ix2 0 o) = A8 (ix2 o 0)) (hbl : bl (ix2 0 0) = A9 (ix1 0))
    (hS : ∀ (o : Fin 64) (k : Fin 4096), S (ix2 o k) = if k.val / 64 = o.val then 1 else 0) (l : Fin 256) :
    k0_pay1 (F := Ideal) (k0_pay5 v g bp wc x bc wb) S bb wl bl (ix2 0 l) = outAt A0 A1 A2 A3 A4 A5 A6 A7 A8 A9 (r l) := by
  rw [half_at v g bp wc x bc wb S bb wl bl hS l]
  unfold outAt
  rw [hbl]
  refine congrArg (· + A9 (ix1 0)) (Finset.sum_congr rfl fun o _ => ?_)
  rw [mul_comm, hwl, hbb]
  refine congrArg (fun s => max (s + A7 (ix1 o)) 0 * A8 (ix2 o 0)) (Finset.sum_congr rfl fun i _ => ?_)
  rw [mul_comm, hbp]
  refine congrArg₂ (fun a b : EReal => max (a + A3 (ix1 i)) 0 * b) (Finset.sum_congr rfl fun k _ => ?_) (Finset.sum_congr rfl fun j _ => ?_)
  · rw [mul_comm, hv, hg]
  · rw [mul_comm, hwb, hbc]
    refine congrArg (fun a : EReal => max (a + A5 (ix1 j)) 0 * A6 (ix3 o i j)) (Finset.sum_congr rfl fun k _ => ?_)
    rw [mul_comm, hwc, hx]

end Cert.KernelIdeal.Hand

end

end
-- ==== Proof.Reads.lean ====
/-
  What the kernel of `KernelIdeal` reads at a point, over the extended reals, in terms of the argument arrays: the blocks
  its windows stage, and the transposed array its copies read. The host lines before the region only transpose, reshape
  and build the matrix of zeros and ones.
-/
module

public import proofs.«01_k».proof.Proof.KernelIdealRun
public import Idealize.ShloMosaic.Lib.Pointwise
public import Idealize.ShloMosaic.Lib.Pipeline.ValueKit
public import Idealize.ShloMosaic.Lib.Claim
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)
open Idealize.SL.Sem

variable (m : (ℓ : Loc nD τ sig) → Buf (Elt Ideal) ℓ) (c : Dev nD)

/-- The argument arrays. -/
abbrev in0 : FVec Ideal S4096x8000 .f32 := m ((c : Thread nD τ).loc main_arg0)
abbrev in1 : FVec Ideal S4096x1024 .f32 := m ((c : Thread nD τ).loc main_arg1)
abbrev in2 : FVec Ideal S8000x64 .f32 := m ((c : Thread nD τ).loc main_arg2)
abbrev in3 : FVec Ideal S64 .f32 := m ((c : Thread nD τ).loc main_arg3)
abbrev in4 : FVec Ideal S1024x64 .f32 := m ((c : Thread nD τ).loc main_arg4)
abbrev in5 : FVec Ideal S64 .f32 := m ((c : Thread nD τ).loc main_arg5)
abbrev in6 : FVec Ideal S64x64x64 .f32 := m ((c : Thread nD τ).loc main_arg6)
abbrev in7 : FVec Ideal S64 .f32 := m ((c : Thread nD τ).loc main_arg7)
abbrev in8 : FVec Ideal S64x1 .f32 := m ((c : Thread nD τ).loc main_arg8)
abbrev in9 : FVec Ideal S1 .f32 := m ((c : Thread nD τ).loc main_arg9)

/-- Which block of its array each window stages at point `t`: the compound rows and the result's columns move with the
    point, every other array is staged whole. -/
theorem idx : ∀ t : Fin cfg0.N, win0_0.index t = ![t.val, 0] ∧ win0_1.index t = ![0, 0] ∧ win0_2.index t = ![0]
    ∧ win0_3.index t = ![0, 0] ∧ win0_4.index t = ![0] ∧ win0_5.index t = ![0, 0] ∧ win0_6.index t = ![0]
    ∧ win0_7.index t = ![0, 0] ∧ win0_8.index t = ![0, 0] ∧ win0_9.index t = ![0, 0] ∧ win0_10.index t = ![0, t.val]
    ∧ t.val < 8 :=
  (by decide +kernel : ∀ t : Fin grid0.N, _)

/-! ## What the host lines before the region leave -/

/-- The array the copies read is the protein array transposed; -/
theorem V_v0 : V m c main_v0 = transpose S8000x4096 [1, 0] (in0 m c) transposes_S4096x8000_S8000x4096_1_0 := by
  unfold V V0; simp only [List.flatten_cons, List.flatten_nil, List.append_nil, List.cons_append, List.nil_append]; after_results
/-- the weights of the protein branch, -/
theorem V_v1 : V m c main_v1 = transpose S64x8000 [1, 0] (in2 m c) transposes_S8000x64_S64x8000_1_0 := by
  unfold V V0; simp only [List.flatten_cons, List.flatten_nil, List.append_nil, List.cons_append, List.nil_append]; after_results
/-- of the compound branch, -/
theorem V_v2 : V m c main_v2 = transpose S64x1024 [1, 0] (in4 m c) transposes_S1024x64_S64x1024_1_0 := by
  unfold V V0; simp only [List.flatten_cons, List.flatten_nil, List.append_nil, List.cons_append, List.nil_append]; after_results
/-- and of the last layer are transposed; -/
theorem V_v4 : V m c main_v4 = transpose S1x64 [1, 0] (in8 m c) transposes_S64x1_S1x64_1_0 := by
  unfold V V0; simp only [List.flatten_cons, List.flatten_nil, List.append_nil, List.cons_append, List.nil_append]; after_results
/-- the bilinear weights are one matrix of 4096 rows; -/
theorem V_v3 : V m c main_v3 = shapeCast S4096x64 (in6 m c) shapeCasts_S64x64x64_S4096x64 := by
  unfold V V0; simp only [List.flatten_cons, List.flatten_nil, List.append_nil, List.cons_append, List.nil_append]; after_results; rfl
/-- the last bias is a 1 x 1 matrix; -/
theorem V_v13 : V m c main_v13 = shapeCast S1x1 (in9 m c) shapeCasts_S1_S1x1 := by
  unfold V V0; simp only [List.flatten_cons, List.flatten_nil, List.append_nil, List.cons_append, List.nil_append]; after_results; rfl

/-- The matrix of zeros and ones, as the host builds it: the identity matrix, each entry repeated 64 times along its row. -/
def kron : FVec Ideal S64x4096 .f32 :=
  shapeCast S64x4096 (mulf
    (broadcastInDim S64x1x64x64 ![0, 1, 2, 3] bcast_S64x1x64x1_S64x1x64x64_0_1_2_3
      (broadcastInDim S64x1x64x1 ![0, 2] bcast_S64x64_S64x1x64x1_0_2
        (uitofp (F := Ideal) .f32 (cmpi .eq (addi (iotaInDim S64x64 32 0) (broadcastInDim S64x64 ![] bcast_S_S64x64 (constantI S_ 32 0#32)))
          (iotaInDim S64x64 32 1)))))
    (broadcastInDim S64x1x64x64 ![0, 1, 2, 3] bcast_S1x1x1x64_S64x1x64x64_0_1_2_3
      (broadcastInDim S1x1x1x64 ![1, 3] bcast_S1x64_S1x1x1x64_1_3
        (broadcastInDim S1x64 ![] bcast_S_S1x64 (constant S_ .f32 0x3F800000#32))))) shapeCasts_S64x1x64x64_S64x4096

/-- The matrix of zeros and ones the kernel reads is the one the host lines build. -/
theorem V_v12 : V m c main_v12 = kron := by
  unfold V V0; simp only [List.flatten_cons, List.flatten_nil, List.append_nil, List.cons_append, List.nil_append]; after_results; rfl

/-- Its entry at row `o`, column `k`: one where `k` is one of the 64 columns of `o`, zero elsewhere. -/
theorem kron_at (o : Fin 64) (k : Fin 4096) : kron (ix2 o k) = if k.val / 64 = o.val then 1 else 0 := by
  pointwise [kron]
  have e : IntOp.addi (BitVec.ofNat 32 o.val) 0#32 = BitVec.ofNat 32 o.val := BitVec.add_zero _
  have ho : o.val < 2 ^ 32 := by have := o.isLt; omega
  have hk : k.val / 64 < 2 ^ 32 := by have := k.isLt; omega
  rw [e]
  by_cases h : k.val / 64 = o.val
  · rw [if_pos h, (WordCmp.cmpi_eq_ofNat_eq_one_iff ho hk).mpr h.symm]
    show (((1#1 : BitVec 1).toNat : ℝ) : EReal) = 1
    simp
  · rw [if_neg h, (WordCmp.cmpi_eq_ofNat_eq_zero_iff ho hk).mpr fun h' => h h'.symm]
    show (((0#1 : BitVec 1).toNat : ℝ) : EReal) = 0
    simp

/-! ## The blocks a point stages, and the array its copies read -/

/-- Window 0: the compound rows. -/
theorem rd0 (t : Fin cfg0.N) (l : Fin 512) (k : Fin 1024) (h : 512 * t.val + l.val < 4096) :
    (show FVec Ideal S512x1024 .f32 from iblk m c 0 t) (ix2 l k) = in1 m c (ix2 ⟨512 * t.val + l.val, h⟩ k) := by
  show iblk m c 0 t (ix2 l k) = _
  blk_point [iblk, V, idx t]

/-- Window 1: the protein weights. -/
theorem rd1 (t : Fin cfg0.N) (i : Fin 64) (k : Fin 8000) :
    (show FVec Ideal S64x8000 .f32 from iblk m c 1 t) (ix2 i k) = in2 m c (ix2 k i) := by
  show iblk m c 1 t (ix2 i k) = _
  have e : iblk m c 1 t (ix2 i k) = V m c main_v1 (ix2 i k) := by blk_ext [iblk, idx t]
  rw [e, V_v1]; pointwise

/-- Window 2: the protein bias. -/
theorem rd2 (t : Fin cfg0.N) (i : Fin 64) :
    (show FVec Ideal S64 .f32 from iblk m c 2 t) (ix1 i) = in3 m c (ix1 i) := by
  show iblk m c 2 t (ix1 i) = _
  blk_point [iblk, V, idx t]

/-- Window 3: the compound weights. -/
theorem rd3 (t : Fin cfg0.N) (j : Fin 64) (k : Fin 1024) :
    (show FVec Ideal S64x1024 .f32 from iblk m c 3 t) (ix2 j k) = in4 m c (ix2 k j) := by
  show iblk m c 3 t (ix2 j k) = _
  have e : iblk m c 3 t (ix2 j k) = V m c main_v2 (ix2 j k) := by blk_ext [iblk, idx t]
  rw [e, V_v2]; pointwise

/-- Window 4: the compound bias. -/
theorem rd4 (t : Fin cfg0.N) (j : Fin 64) :
    (show FVec Ideal S64 .f32 from iblk m c 4 t) (ix1 j) = in5 m c (ix1 j) := by
  show iblk m c 4 t (ix1 j) = _
  blk_point [iblk, V, idx t]

/-- Window 5: the bilinear weights. -/
theorem rd5 (t : Fin cfg0.N) (o i j : Fin 64) (h : o.val * 64 + i.val < 4096) :
    (show FVec Ideal S4096x64 .f32 from iblk m c 5 t) (ix2 ⟨o.val * 64 + i.val, h⟩ j) = in6 m c (ix3 o i j) := by
  show iblk m c 5 t (ix2 ⟨o.val * 64 + i.val, h⟩ j) = _
  have e : iblk m c 5 t (ix2 ⟨o.val * 64 + i.val, h⟩ j) = V m c main_v3 (ix2 ⟨o.val * 64 + i.val, h⟩ j) := by blk_ext [iblk, idx t]
  rw [e, V_v3]; pointwise

/-- Window 6: the bilinear bias. -/
theorem rd6 (t : Fin cfg0.N) (o : Fin 64) :
    (show FVec Ideal S64 .f32 from iblk m c 6 t) (ix1 o) = in7 m c (ix1 o) := by
  show iblk m c 6 t (ix1 o) = _
  blk_point [iblk, V, idx t]

/-- Window 7: the last weights. -/
theorem rd7 (t : Fin cfg0.N) (o : Fin 64) :
    (show FVec Ideal S1x64 .f32 from iblk m c 7 t) (ix2 0 o) = in8 m c (ix2 o 0) := by
  show iblk m c 7 t (ix2 0 o) = _
  have e : iblk m c 7 t (ix2 0 o) = V m c main_v4 (ix2 0 o) := by blk_ext [iblk, idx t]
  rw [e, V_v4]; pointwise

/-- Window 8: the last bias. -/
theorem rd8 (t : Fin cfg0.N)  :
    (show FVec Ideal S1x1 .f32 from iblk m c 8 t) (ix2 0 0) = in9 m c (ix1 0) := by
  show iblk m c 8 t (ix2 0 0) = _
  have e : iblk m c 8 t (ix2 0 0) = V m c main_v13 (ix2 0 0) := by blk_ext [iblk, idx t]
  rw [e, V_v13]; pointwise

/-- Window 9: the matrix of zeros and ones. -/
theorem rd9 (t : Fin cfg0.N) (o : Fin 64) (k : Fin 4096) :
    (show FVec Ideal S64x4096 .f32 from iblk m c 9 t) (ix2 o k) = if k.val / 64 = o.val then 1 else 0 := by
  show iblk m c 9 t (ix2 o k) = _
  have e : iblk m c 9 t (ix2 o k) = V m c main_v12 (ix2 o k) := by blk_ext [iblk, idx t]
  rw [e, V_v12]; exact kron_at o k

/-- The transposed array. -/
theorem src_at (k : Fin 8000) (b : Fin 4096) : src m c (ix2 k b) = in0 m c (ix2 b k) := by
  show V m c main_v0 (ix2 k b) = _
  rw [V_v0]; pointwise

end Cert.KernelIdeal.Hand

end

end
-- ==== Proof.Value.lean ====
/-
  The idealized kernel's result, element by element: each half of a point's block is the result at its rows, so the
  block the point writes back is, so the array the region leaves is.
-/
module

public import proofs.«01_k».proof.Proof.Half
public import proofs.«01_k».proof.Proof.Reads

@[expose] public section

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)
open Idealize.SL.Sem

variable (m : (ℓ : Loc nD τ sig) → Buf (Elt Ideal) ℓ) (c : Dev nD)

/-- The result at row `b`, from the arrays `m` holds in the arguments. -/
def out (b : Fin 4096) : EReal :=
  outAt (in0 m c) (in1 m c) (in2 m c) (in3 m c) (in4 m c) (in5 m c) (in6 m c) (in7 m c) (in8 m c) (in9 m c) b

/-- Row `l` of the half `h` of the point `t`. -/
def rowAt (t : Fin cfg0.N) (h : Fin 2) (l : Fin 256) : Fin 4096 :=
  ⟨512 * t.val + 256 * h.val + l.val, by have := (idx t).2.2.2.2.2.2.2.2.2.2.2; omega⟩

/-- The columns a half multiplies with the protein weights are the protein features of its rows. -/
theorem cols_at (t : Fin cfg0.N) (h : Fin 2) (k : Fin 8000) (l : Fin 256) :
    (show FVec Ideal S8000x256 .f32 from cols (src m c) (2 * t.val + h.val)) (ix2 k l) = in0 m c (ix2 (rowAt t h l) k) := by
  rw [← src_at]
  have ht := (idx t).2.2.2.2.2.2.2.2.2.2.2
  show src m c _ = src m c _
  congr 1
  funext a
  match a with
  | ⟨0, _⟩ => rfl
  | ⟨1, _⟩ => exact Fin.ext (show (256 * (2 * t.val + h.val) + l.val) % 4096 = 512 * t.val + 256 * h.val + l.val by omega)

/-- The first half of a point's block. -/
theorem halfA_at (t : Fin cfg0.N) (l : Fin 256) :
    halfA (F := Ideal) (iblk m c 0 t) (iblk m c 2 t) (iblk m c 3 t) (iblk m c 4 t) (iblk m c 5 t) (iblk m c 6 t) (iblk m c 7 t) (iblk m c 8 t)
      (iblk m c 9 t) (iblk m c 1 t) (cols (src m c) (2 * t.val + 0)) (ix2 0 l) = out m c (rowAt t 0 l) := by
  unfold halfA
  rw [pay34_eq]
  exact half_out (rowAt t 0)
    (fun l k => by
      have ht := (idx t).2.2.2.2.2.2.2.2.2.2.2
      refine Eq.trans ?_ ((rd0 m c t ⟨l.val, by omega⟩ k (by show 512 * t.val + l.val < 4096; omega)).trans ?_)
      · show iblk m c 0 t _ = iblk m c 0 t _
        congr 1
        funext a
        match a with
        | ⟨0, _⟩ => exact Fin.ext (show 0 + 1 * l.val = l.val by omega)
        | ⟨1, _⟩ => exact Fin.ext (show 0 + 1 * k.val = k.val by omega)
      · congr 1)
    (cols_at m c t 0) (rd1 m c t) (rd2 m c t) (rd3 m c t) (rd4 m c t) (rd5 m c t) (rd6 m c t) (rd7 m c t) (rd8 m c t) (rd9 m c t) l

/-- The second half of a point's block. -/
theorem halfB_at (t : Fin cfg0.N) (l : Fin 256) :
    halfB (F := Ideal) (iblk m c 0 t) (iblk m c 2 t) (iblk m c 3 t) (iblk m c 4 t) (iblk m c 5 t) (iblk m c 6 t) (iblk m c 7 t) (iblk m c 8 t)
      (iblk m c 9 t) (iblk m c 1 t) (cols (src m c) (2 * t.val + 1)) (ix2 0 l) = out m c (rowAt t 1 l) := by
  unfold halfB
  exact half_out (rowAt t 1)
    (fun l k => by
      have ht := (idx t).2.2.2.2.2.2.2.2.2.2.2
      refine Eq.trans ?_ ((rd0 m c t ⟨256 + l.val, by omega⟩ k (by show 512 * t.val + (256 + l.val) < 4096; omega)).trans ?_)
      · show iblk m c 0 t _ = iblk m c 0 t _
        congr 1
        funext a
        match a with
        | ⟨0, _⟩ => exact Fin.ext (show 256 + 1 * l.val = 256 + l.val by omega)
        | ⟨1, _⟩ => exact Fin.ext (show 0 + 1 * k.val = k.val by omega)
      · congr 2; exact Fin.ext (show 512 * t.val + (256 + l.val) = 512 * t.val + 256 * 1 + l.val by omega))
    (cols_at m c t 1) (rd1 m c t) (rd2 m c t) (rd3 m c t) (rd4 m c t) (rd5 m c t) (rd6 m c t) (rd7 m c t) (rd8 m c t) (rd9 m c t) l

/-- The block a point writes back. -/
theorem row_at (t : Fin cfg0.N) (y : Fin 512) (hy : 512 * t.val + y.val < 4096) :
    (show FVec Ideal S1x512 .f32 from row m c t) (ix2 0 y) = out m c ⟨512 * t.val + y.val, hy⟩ := by
  show rowOut _ _ _ _ _ _ _ _ _ _ _ _ _ _ = _
  unfold rowOut
  by_cases h : y.val < 256
  · rw [Rect.overlay_of_not_mem _ _ _ (by
      rw [Rect.mem_set_unit]; intro hh; have := (hh 1).1; have : 256 ≤ y.val := this; omega)]
    have e : (ix2 0 y : S1x512.Idx) = (Rect.unit (s := S1x512) ![0, 0] S1x256.size inb_S1x512_S1x256_0_0).emb (ix2 0 ⟨y.val, h⟩) := by
      funext a
      match a with
      | ⟨0, _⟩ => rfl
      | ⟨1, _⟩ => exact Fin.ext (show y.val = 0 + 1 * y.val by omega)
    rw [e, Rect.overlay_emb]
    refine (halfA_at m c t ⟨y.val, h⟩).trans (congrArg (out m c) (Fin.ext ?_))
    show 512 * t.val + 256 * 0 + y.val = 512 * t.val + y.val
    omega
  · have e : (ix2 0 y : S1x512.Idx)
        = (Rect.unit (s := S1x512) ![0, 256] S1x256.size inb_S1x512_S1x256_0_256).emb (ix2 0 ⟨y.val - 256, by omega⟩) := by
      funext a
      match a with
      | ⟨0, _⟩ => rfl
      | ⟨1, _⟩ => exact Fin.ext (show y.val = 256 + 1 * (y.val - 256) by omega)
    rw [e, Rect.overlay_emb]
    refine (halfB_at m c t ⟨y.val - 256, by omega⟩).trans (congrArg (out m c) (Fin.ext ?_))
    show 512 * t.val + 256 * 1 + (y.val - 256) = 512 * t.val + y.val
    omega

/-- The array the region leaves: at column `b` the result at row `b`. -/
theorem final : (dats m 0 c).arrAt 10 cfg0.N = (show FVec Ideal S1x4096 .f32 from fun y => out m c (y 1)) := by
  refine (dats m 0 c).arrAt_eq_of_covers 10 _ (by decide +kernel) fun t _ y => ?_
  blk_simp
  rw [after0_10]
  have ht := (idx t).2.2.2.2.2.2.2.2.2.2.2
  have hy : (y 1).val < 512 := (y 1).isLt
  have e : (y : S1x512.Idx) = ix2 0 ⟨(y 1).val, hy⟩ := by
    funext a
    match a with
    | ⟨0, _⟩ => exact Fin.ext (by have : (y 0).val < 1 := (y 0).isLt; show (y 0).val = 0; omega)
    | ⟨1, _⟩ => rfl
  refine (congrArg (row m c t) e).trans ((row_at m c t ⟨(y 1).val, hy⟩ (by show 512 * t.val + (y 1).val < 4096; omega)).trans ?_)
  refine congrArg (out m c) (Fin.ext ?_)
  blk_simp [idx t]
  show 512 * t.val + (y 1).val = t.val * 512 + (y 1).val
  omega

/-- The result buffer: what the last host line makes of the array the region leaves, at row `b` the result at row `b`. -/
theorem result_eq : Pipeline.afterTail₀ cfgs (dats m) 0 (V0 m) [hostOps1] c main_v15
    = (show FVec Ideal S4096x1 .f32 from fun y => out m c (y 0)) := by
  unfold Pipeline.afterTail₀
  simp only [List.flatten_cons, List.flatten_nil, List.append_nil]
  after_results
  have e := (Pipeline.withArrays_arr spec0 (by decide) c (V0 m c) (fun w => (dats m 0 c).arrAt w cfg0.N) 10).trans (final m c)
  have e' : (Pipeline.withArrays (cfgs 0).spec c (V0 m c) (fun w => (dats m 0 c).arrAt w (cfgs 0).N) (Proc.devRef .tc main_v14))
      = (show FVec Ideal S1x4096 .f32 from fun y => out m c (y 1)) := e
  rw [e']
  show shapeCast (α := EReal) S4096x1 (show S1x4096.Idx → EReal from fun y => out m c (y 1)) shapeCasts_S1x4096_S4096x1 = _
  funext j
  obtain ⟨b, z, rfl⟩ : ∃ (b : Fin 4096) (z : Fin 1), j = ix2 b z := ⟨j 0, j 1, (ix2_eta j).symm⟩
  pointwise

/-- The kernel's run, with its result: row `b` of the result buffer is the result at row `b`, and the arguments are kept. -/
theorem run_value (ρ : Dev nD → PrngReg) : θ_run defs (onTc (τ := τ) (main (F := Ideal))) ⟨m, fun _ => 0, ρ⟩ (fun r => ∀ c : Dev nD,
      r.2.mem ((c.tc : Thread nD τ).loc main_v15) = (show FVec Ideal S4096x1 .f32 from fun y => out m c (y 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h.1 c).2 main_v15 (by decide)).trans (result_eq m c), args_kept m h.1 c⟩) (run_main m ρ)

end Cert.KernelIdeal.Hand

end

end
-- ==== Proof.Reference.lean ====
/-
  The reference's result, element by element: at row `b` the same value the kernel's halves compute (`outAt`). The
  result is the composition of the reference's operations over the argument arrays, named here layer by layer.
-/
module

public import proofs.«01_k».proof.Proof.Gen.ReferenceIdeal
public import proofs.«01_k».proof.Proof.Half
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe

/-- The negative part dropped, at every element. -/
def relu (x : FVec Ideal S4096x64 .f32) : FVec Ideal S4096x64 .f32 :=
  maximumf x (broadcastInDim S4096x64 ![] bcast_S_S4096x64 (constant (F := Ideal) S_ .f32 0#32))

/-- A bias, the same for every row. -/
def bias (v : FVec Ideal S64 .f32) : FVec Ideal S4096x64 .f32 :=
  broadcastInDim S4096x64 ![0, 1] bcast_S1x64_S4096x64_0_1 (broadcastInDim S1x64 ![1] bcast_S64_S1x64_1 v)

/-- The protein branch. -/
def prot (A0 : FVec Ideal S4096x8000 .f32) (A2 : FVec Ideal S8000x64 .f32) (A3 : FVec Ideal S64 .f32) : FVec Ideal S4096x64 .f32 :=
  relu (addf (Host.dotGeneral dot_S4096x8000_S8000x64_S4096x64_1_0_0_1_n_n none A0 A2) (bias A3))

/-- The compound branch. -/
def comp (A1 : FVec Ideal S4096x1024 .f32) (A4 : FVec Ideal S1024x64 .f32) (A5 : FVec Ideal S64 .f32) : FVec Ideal S4096x64 .f32 :=
  relu (addf (Host.dotGeneral dot_S4096x1024_S1024x64_S4096x64_1_0_0_1_n_n none A1 A4) (bias A5))

/-- The bilinear layer. -/
def bilin (p q : FVec Ideal S4096x64 .f32) (A6 : FVec Ideal S64x64x64 .f32) (A7 : FVec Ideal S64 .f32) : FVec Ideal S4096x64 .f32 :=
  relu (addf (Host.reduceAdd (mulf
      (broadcastInDim S4096x64x64 ![0, 1, 2] bcast_S4096x1x64_S4096x64x64_0_1_2
        (broadcastInDim S4096x1x64 ![0, 2] bcast_S4096x64_S4096x1x64_0_2 p))
      (Host.dotGeneral dot_S4096x64_S64x64x64_S4096x64x64_1_2_0_01_n_n none q A6))
    (constant (F := Ideal) S_ .f32 0#32) reducesTo_S4096x64x64_S4096x64_d2 h_S_) (bias A7))

/-- The reference's result. -/
def ref (A0 : FVec Ideal S4096x8000 .f32) (A1 : FVec Ideal S4096x1024 .f32) (A2 : FVec Ideal S8000x64 .f32) (A3 : FVec Ideal S64 .f32)
    (A4 : FVec Ideal S1024x64 .f32) (A5 : FVec Ideal S64 .f32) (A6 : FVec Ideal S64x64x64 .f32) (A7 : FVec Ideal S64 .f32)
    (A8 : FVec Ideal S64x1 .f32) (A9 : FVec Ideal S1 .f32) : FVec Ideal S4096x1 .f32 :=
  addf (Host.dotGeneral dot_S4096x64_S64x1_S4096x1_1_0_0_1_n_n none (bilin (prot A0 A2 A3) (comp A1 A4 A5) A6 A7) A8)
    (broadcastInDim S4096x1 ![0, 1] bcast_S1x1_S4096x1_0_1 (broadcastInDim S1x1 ![1] bcast_S1_S1x1_1 A9))

/-- The protein branch at an element. -/
theorem prot_at (A0 : FVec Ideal S4096x8000 .f32) (A2 : FVec Ideal S8000x64 .f32) (A3 : FVec Ideal S64 .f32) (b : Fin 4096) (i : Fin 64) :
    prot A0 A2 A3 (ix2 b i) = max ((∑ k : Fin 8000, A0 (ix2 b k) * A2 (ix2 k i)) + A3 (ix1 i)) 0 := by
  pointwise [prot, relu, bias]

/-- The compound branch at an element. -/
theorem comp_at (A1 : FVec Ideal S4096x1024 .f32) (A4 : FVec Ideal S1024x64 .f32) (A5 : FVec Ideal S64 .f32) (b : Fin 4096) (j : Fin 64) :
    comp A1 A4 A5 (ix2 b j) = max ((∑ k : Fin 1024, A1 (ix2 b k) * A4 (ix2 k j)) + A5 (ix1 j)) 0 := by
  pointwise [comp, relu, bias]

/-- The bilinear layer at an element. -/
theorem bilin_at (p q : FVec Ideal S4096x64 .f32) (A6 : FVec Ideal S64x64x64 .f32) (A7 : FVec Ideal S64 .f32) (b : Fin 4096) (o : Fin 64) :
    bilin p q A6 A7 (ix2 b o)
      = max ((∑ i : Fin 64, p (ix2 b i) * ∑ j : Fin 64, q (ix2 b j) * A6 (ix3 o i j)) + A7 (ix1 o)) 0 := by
  pointwise [bilin, relu, bias]

/-- The reference's result at a row. -/
theorem ref_at (A0 : FVec Ideal S4096x8000 .f32) (A1 : FVec Ideal S4096x1024 .f32) (A2 : FVec Ideal S8000x64 .f32) (A3 : FVec Ideal S64 .f32)
    (A4 : FVec Ideal S1024x64 .f32) (A5 : FVec Ideal S64 .f32) (A6 : FVec Ideal S64x64x64 .f32) (A7 : FVec Ideal S64 .f32)
    (A8 : FVec Ideal S64x1 .f32) (A9 : FVec Ideal S1 .f32) (b : Fin 4096) :
    ref A0 A1 A2 A3 A4 A5 A6 A7 A8 A9 (ix2 b 0) = Cert.KernelIdeal.Hand.outAt A0 A1 A2 A3 A4 A5 A6 A7 A8 A9 b := by
  have e : ref A0 A1 A2 A3 A4 A5 A6 A7 A8 A9 (ix2 b 0)
      = (∑ o : Fin 64, bilin (prot A0 A2 A3) (comp A1 A4 A5) A6 A7 (ix2 b o) * A8 (ix2 o 0)) + A9 (ix1 0) := by
    pointwise [ref]
  rw [e]
  simp only [bilin_at, prot_at, comp_at]
  rfl

/-- The reference's result array. -/
theorem ref_eq (A0 : FVec Ideal S4096x8000 .f32) (A1 : FVec Ideal S4096x1024 .f32) (A2 : FVec Ideal S8000x64 .f32) (A3 : FVec Ideal S64 .f32)
    (A4 : FVec Ideal S1024x64 .f32) (A5 : FVec Ideal S64 .f32) (A6 : FVec Ideal S64x64x64 .f32) (A7 : FVec Ideal S64 .f32)
    (A8 : FVec Ideal S64x1 .f32) (A9 : FVec Ideal S1 .f32) :
    ref A0 A1 A2 A3 A4 A5 A6 A7 A8 A9
      = (show FVec Ideal S4096x1 .f32 from fun y => Cert.KernelIdeal.Hand.outAt A0 A1 A2 A3 A4 A5 A6 A7 A8 A9 (y 0)) := by
  funext y
  have e : y = ix2 (y 0) 0 := by
    funext a
    match a with
    | ⟨0, _⟩ => rfl
    | ⟨1, _⟩ => exact Fin.ext (by have : (y 1).val < 1 := (y 1).isLt; show (y 1).val = 0; omega)
  exact (congrArg (ref A0 A1 A2 A3 A4 A5 A6 A7 A8 A9) e).trans (ref_at A0 A1 A2 A3 A4 A5 A6 A7 A8 A9 (y 0))

end Cert.ReferenceIdeal.Hand

end

end
-- ==== Proof.lean ====
/-
  The certificate: the kernel, its idealization and the reference run, terminate and leave their arguments and every
  semaphore counter as they should (`Proof/KernelRun.lean`, `Proof/KernelIdealRun.lean`, and the reference's host lines
  here); and the idealized kernel's result equals the reference's (`Proof/Value.lean`, `Proof/Reference.lean`).
-/
module

public import proofs.«01_k».proof.Defs
public import proofs.«01_k».proof.Proof.Gen.ReferenceIdeal
public import proofs.«01_k».proof.Proof.KernelRun
public import proofs.«01_k».proof.Proof.KernelIdealRun
public import proofs.«01_k».proof.Proof.Value
public import proofs.«01_k».proof.Proof.Reference
public import Idealize.ShloMosaic.Lib.Claim
public import Idealize.ShloMosaic.Lib.Quiescent

@[expose] public section

set_option maxRecDepth 16384

noncomputable section

namespace Cert.Proof

open Idealize.ShloMosaic Idealize.SL.Sem

/-- The kernel runs, leaves its arguments as they were and every semaphore counter at zero. -/
theorem quiescent_kernel : Cert.quiescent_Kernel := fun m g _ => Cert.Kernel.Hand.frame m g

/-- So does its idealization. -/
theorem quiescent_ideal : Cert.quiescent_KernelIdeal := fun m g _ => Cert.KernelIdeal.Hand.frame m g

/-- So does the reference. -/
theorem quiescent_reference : Cert.quiescent_ReferenceIdeal := by
  intro m g _
  hlo_run
  · exact fun _ => ⟨trivial, trivial, trivial, trivial, trivial, trivial, trivial, trivial, trivial, trivial⟩
  · exact sem_eq_zero_of_no_sems (sig := Cert.ReferenceIdeal.sig) (by decide) _

/-- On the same arguments the idealized kernel and the reference leave equal results, element by element. -/
theorem algebraic : Cert.algebraic_KernelIdeal_ReferenceIdeal := by
  pair_intro
  · exact Cert.KernelIdeal.Hand.run_value m g
  · hlo_run
    exact Cert.ReferenceIdeal.Hand.ref_eq _ _ _ _ _ _ _ _ _ _

/-- Everything the certificate states. -/
theorem claim : Cert.Claim := ⟨Cert.Kernel.Gen.facts, Cert.KernelIdeal.Gen.facts, Cert.ReferenceIdeal.Gen.facts,
  quiescent_kernel, quiescent_ideal, quiescent_reference, trivial, algebraic⟩

end Cert.Proof

end
